-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_root" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x26 : Shape := ⟨2, ![16384, 26]⟩
abbrev S16384x13 : Shape := ⟨2, ![16384, 13]⟩
abbrev S26x100000x16 : Shape := ⟨3, ![26, 100000, 16]⟩
abbrev S13 : Shape := ⟨1, ![13]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x13 .f32) (main_arg2 : FVec F S26x100000x16 .f32) (main_arg3 : FVec F S13 .f32) (main_arg4 : FVec F S13 .f32) (main_arg5 : FVec F S429x512 .f32) (main_arg6 : FVec F S512 .f32) (main_arg7 : FVec F S512 .f32) (main_arg8 : FVec F S512 .f32) (main_arg9 : FVec F S512x256 .f32) (main_arg10 : FVec F S256 .f32) (main_arg11 : FVec F S256 .f32) (main_arg12 : FVec F S256 .f32) (main_arg13 : FVec F S256x2 .f32) (main_arg14 : FVec F S2 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S16384x13 : Shape := ⟨2, ![16384, 13]⟩
abbrev S26x100000x16 : Shape := ⟨3, ![26, 100000, 16]⟩
abbrev S13 : Shape := ⟨1, ![13]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S26 : Shape := ⟨1, ![26]⟩
abbrev S_ : Shape := ⟨0, ![]⟩
abbrev S1x26 : Shape := ⟨2, ![1, 26]⟩
abbrev S425984 : Shape := ⟨1, ![425984]⟩
abbrev S2600000x16 : Shape := ⟨2, ![2600000, 16]⟩
abbrev S425984x16 : Shape := ⟨2, ![425984, 16]⟩
abbrev S1664 : Shape := ⟨1, ![1664]⟩
abbrev S1664x16 : Shape := ⟨2, ![1664, 16]⟩
abbrev S16384x416 : Shape := ⟨2, ![16384, 416]⟩
abbrev S416x512 : Shape := ⟨2, ![416, 512]⟩
abbrev S13x512 : Shape := ⟨2, ![13, 512]⟩
abbrev S1x13 : Shape := ⟨2, ![1, 13]⟩
abbrev S1x512 : Shape := ⟨2, ![1, 512]⟩
abbrev S1x256 : Shape := ⟨2, ![1, 256]⟩
abbrev S1x2 : Shape := ⟨2, ![1, 2]⟩
abbrev S16384x2 : Shape := ⟨2, ![16384, 2]⟩
abbrev S2048x416 : Shape := ⟨2, ![2048, 416]⟩
abbrev S2048x13 : Shape := ⟨2, ![2048, 13]⟩
abbrev S2048x2 : Shape := ⟨2, ![2048, 2]⟩
abbrev S2048x512 : Shape := ⟨2, ![2048, 512]⟩
abbrev S2048x256 : Shape := ⟨2, ![2048, 256]⟩

abbrev nBuf : Table → Nat
  | .hbm => 38
  | .local .tc .vmem => 19
  | .local .scVector .vmem => 4
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S13, .f32⟩
  | .hbm, ⟨4, _⟩ => ⟨S13, .f32⟩
  | .hbm, ⟨5, _⟩ => ⟨S429x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S26, .i32⟩
  | .hbm, ⟨16, _⟩ => ⟨S_, .i32⟩
  | .hbm, ⟨17, _⟩ => ⟨S26, .i32⟩
  | .hbm, ⟨18, _⟩ => ⟨S26, .i32⟩
  | .hbm, ⟨19, _⟩ => ⟨S1x26, .i32⟩
  | .hbm, ⟨20, _⟩ => ⟨S16384x26, .i32⟩
  | .hbm, ⟨21, _⟩ => ⟨S16384x26, .i32⟩
  | .hbm, ⟨22, _⟩ => ⟨S425984, .i32⟩
  | .hbm, ⟨23, _⟩ => ⟨S2600000x16, .f32⟩
  | .hbm, ⟨24, _⟩ => ⟨S425984x16, .f32⟩
  | .hbm, ⟨25, _⟩ => ⟨S16384x416, .f32⟩
  | .hbm, ⟨26, _⟩ => ⟨S416x512, .f32⟩
  | .hbm, ⟨27, _⟩ => ⟨S13x512, .f32⟩
  | .hbm, ⟨28, _⟩ => ⟨S1x13, .f32⟩
  | .hbm, ⟨29, _⟩ => ⟨S1x13, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x2, .f32⟩
  | .hbm, ⟨37, _⟩ => ⟨S16384x2, .f32⟩
  | .local .tc .vmem, ⟨0, _⟩ => ⟨S2048x416, .f32⟩
  | .local .tc .vmem, ⟨1, _⟩ => ⟨S2048x416, .f32⟩
  | .local .tc .vmem, ⟨2, _⟩ => ⟨S2048x13, .f32⟩
  | .local .tc .vmem, ⟨3, _⟩ => ⟨S2048x13, .f32⟩
  | .local .tc .vmem, ⟨4, _⟩ => ⟨S1x13, .f32⟩
  | .local .tc .vmem, ⟨5, _⟩ => ⟨S1x13, .f32⟩
  | .local .tc .vmem, ⟨6, _⟩ => ⟨S416x512, .f32⟩
  | .local .tc .vmem, ⟨7, _⟩ => ⟨S13x512, .f32⟩
  | .local .tc .vmem, ⟨8, _⟩ => ⟨S1x512, .f32⟩
  | .local .tc .vmem, ⟨9, _⟩ => ⟨S1x512, .f32⟩
  | .local .tc .vmem, ⟨10, _⟩ => ⟨S1x512, .f32⟩
  | .local .tc .vmem, ⟨11, _⟩ => ⟨S512x256, .f32⟩
  | .local .tc .vmem, ⟨12, _⟩ => ⟨S1x256, .f32⟩
  | .local .tc .vmem, ⟨13, _⟩ => ⟨S1x256, .f32⟩
  | .local .tc .vmem, ⟨14, _⟩ => ⟨S1x256, .f32⟩
  | .local .tc .vmem, ⟨15, _⟩ => ⟨S256x2, .f32⟩
  | .local .tc .vmem, ⟨16, _⟩ => ⟨S1x2, .f32⟩
  | .local .tc .vmem, ⟨17, _⟩ => ⟨S2048x2, .f32⟩
  | .local .tc .vmem, ⟨18, _⟩ => ⟨S2048x2, .f32⟩
  | .local .scVector .vmem, ⟨0, _⟩ => ⟨S1664, .i32⟩
  | .local .scVector .vmem, ⟨1, _⟩ => ⟨S1664, .i32⟩
  | .local .scVector .vmem, ⟨2, _⟩ => ⟨S1664x16, .f32⟩
  | .local .scVector .vmem, ⟨3, _⟩ => ⟨S1664x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v6_scv : Ref sig .scVector := ⟨.hbm, 22, rfl⟩
abbrev main_v7_scv : Ref sig .scVector := ⟨.hbm, 23, rfl⟩
abbrev main_v8_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg15_1 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem15_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v3 : BitVec 32 := Scalar.addi v2 c0_i32
  ![v3.toNat]
def k0_off2 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v8 : BitVec 32 := Scalar.addi v2 c0_i32_6
  let c0_i32_7 : BitVec 32 := 0#32
  ![v8.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x13 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S416x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S13x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x2 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x2 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2048x2 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_root" => some (((Real.sqrt (2097173 / 2097152))⁻¹ : ℝ) : EReal)
  | _ => none
-- ==== ReferenceIdeal.lean ====
abbrev S16384x26 : Shape := ⟨2, ![16384, 26]⟩
abbrev S16384x13 : Shape := ⟨2, ![16384, 13]⟩
abbrev S26x100000x16 : Shape := ⟨3, ![26, 100000, 16]⟩
abbrev S13 : Shape := ⟨1, ![13]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S1x13 : Shape := ⟨2, ![1, 13]⟩
abbrev S16384x429 : Shape := ⟨2, ![16384, 429]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x2 : Shape := ⟨2, ![16384, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S13, .f32⟩
  | .hbm, ⟨4, _⟩ => ⟨S13, .f32⟩
  | .hbm, ⟨5, _⟩ => ⟨S429x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x2, .f32⟩
  | .hbm, ⟨14, _⟩ => ⟨S2, .f32⟩
  | .hbm, ⟨15, _⟩ => ⟨S_, .i32⟩
  | .hbm, ⟨16, _⟩ => ⟨S16384x26, .i32⟩
  | .hbm, ⟨17, _⟩ => ⟨S16384x26, .i1⟩
  | .hbm, ⟨18, _⟩ => ⟨S_, .i32⟩
  | .hbm, ⟨19, _⟩ => ⟨S16384x26, .i32⟩
  | .hbm, ⟨20, _⟩ => ⟨S16384x26, .i32⟩
  | .hbm, ⟨21, _⟩ => ⟨S16384x26, .i32⟩
  | .hbm, ⟨22, _⟩ => ⟨S26x16384, .i32⟩
  | .hbm, ⟨23, _⟩ => ⟨S26x16384x1, .i32⟩
  | .hbm, ⟨24, _⟩ => ⟨S1, .i32⟩
  | .hbm, ⟨25, _⟩ => ⟨S_, .i32⟩
  | .hbm, ⟨26, _⟩ => ⟨S26x16384x1, .i32⟩
  | .hbm, ⟨27, _⟩ => ⟨S26x16384x1, .i1⟩
  | .hbm, ⟨28, _⟩ => ⟨S1x1x1, .i32⟩
  | .hbm, ⟨29, _⟩ => ⟨S26x16384x1, .i32⟩
  | .hbm, ⟨30, _⟩ => ⟨S26x16384x1, .i1⟩
  | .hbm, ⟨31, _⟩ => ⟨S26x16384x1, .i1⟩
  | .hbm, ⟨32, _⟩ => ⟨S_, .i1⟩
  | .hbm, ⟨33, _⟩ => ⟨S26x16384, .i1⟩
  | .hbm, ⟨34, _⟩ => ⟨S26x16384x16, .f32⟩
  | .hbm, ⟨35, _⟩ => ⟨S26x16384x16, .i1⟩
  | .hbm, ⟨36, _⟩ => ⟨S_, .f32⟩
  | .hbm, ⟨37, _⟩ => ⟨S26x16384x16, .f32⟩
  | .hbm, ⟨38, _⟩ => ⟨S26x16384x16, .f32⟩
  | .hbm, ⟨39, _⟩ => ⟨S16384x26x16, .f32⟩
  | .hbm, ⟨40, _⟩ => ⟨S16384x416, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x13, .f32⟩
  | .hbm, ⟨45, _⟩ => ⟨S16384x13, .f32⟩
  | .hbm, ⟨46, _⟩ => ⟨S1x13, .f32⟩
  | .hbm, ⟨47, _⟩ => ⟨S16384x13, .f32⟩
  | .hbm, ⟨48, _⟩ => ⟨S16384x13, .f32⟩
  | .hbm, ⟨49, _⟩ => ⟨S1x13, .f32⟩
  | .hbm, ⟨50, _⟩ => ⟨S16384x13, .f32⟩
  | .hbm, ⟨51, _⟩ => ⟨S16384x13, .f32⟩
  | .hbm, ⟨52, _⟩ => ⟨S16384x429, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S1x512, .f32⟩
  | .hbm, ⟨66, _⟩ => ⟨S16384x512, .f32⟩
  | .hbm, ⟨67, _⟩ => ⟨S16384x512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S16384x256, .f32⟩
  | .hbm, ⟨72, _⟩ => ⟨S1x256, .f32⟩
  | .hbm, ⟨73, _⟩ => ⟨S16384x256, .f32⟩
  | .hbm, ⟨74, _⟩ => ⟨S16384x256, .f32⟩
  | .hbm, ⟨75, _⟩ => ⟨S_, .f32⟩
  | .hbm, ⟨76, _⟩ => ⟨S16384x256, .f32⟩
  | .hbm, ⟨77, _⟩ => ⟨S16384x256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S16384x256, .f32⟩
  | .hbm, ⟨82, _⟩ => ⟨S16384x256, .f32⟩
  | .hbm, ⟨83, _⟩ => ⟨S1x256, .f32⟩
  | .hbm, ⟨84, _⟩ => ⟨S16384x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S16384x2, .f32⟩
  | .hbm, ⟨90, _⟩ => ⟨S1x2, .f32⟩
  | .hbm, ⟨91, _⟩ => ⟨S16384x2, .f32⟩
  | .hbm, ⟨92, _⟩ => ⟨S16384x2, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_c_1 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_c_3 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_cst : Ref sig .tc := ⟨.hbm, 36, rfl⟩
abbrev main_call0_v16 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_0 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_2 : Ref sig .tc := ⟨.hbm, 75, rfl⟩
abbrev main_v34 : Ref sig .tc := ⟨.hbm, 76, rfl⟩
abbrev main_v35 : Ref sig .tc := ⟨.hbm, 77, rfl⟩
abbrev main_cst_3 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩

abbrev nD : Nat := 1
abbrev τ : Topo := Topo.v7x

variable {F : FTy → Type} [FloatOps F]
-- ==== Proof.Range.lean ====
/-
  What the precondition `in_vocab` says of one word of the index array: read as a natural number it is below 100000.
-/
module

public import proofs.«01_k».proof.Proof.Gen.Pre_in_vocab
public import Idealize.ShloMosaic.Lib.ReduceAll
public import Idealize.ShloMosaic.Lib.WordCmp

@[expose] public section

noncomputable section

namespace Cert.Proof.Range

open Idealize.ShloMosaic
open Cert.Pre_in_vocab

/-- Every word of an index array the precondition admits is below the vocabulary's size. -/
theorem word_lt [Facts] {F : FTy → Type} [FloatOps F] (a0 : IVec S16384x26 32) (a1 : FVec F S16384x13 .f32)
    (a2 : FVec F S26x100000x16 .f32) (a3 a4 : FVec F S13 .f32) (a5 : FVec F S429x512 .f32) (a6 a7 a8 : FVec F S512 .f32)
    (a9 : FVec F S512x256 .f32) (a10 a11 a12 : FVec F S256 .f32) (a13 : FVec F S256x2 .f32) (a14 : FVec F S2 .f32)
    (h : fn a0 a1 a2 a3 a4 a5 a6 a7 a8 a9 a10 a11 a12 a13 a14 = fun _ => 1#1) (i : S16384x26.Idx) :
    (a0 i).toNat < 100000 := by
  haveI : Subsingleton S_.Idx := ⟨fun a b => funext fun x => x.elim0⟩
  have e := congrFun h (fun x => x.elim0)
  dsimp only [fn] at e
  have e1 := Host.reduce_andi_all _ _ _ _ _ e i
  have e2 : IntOp.andi (IntOp.cmpi .sge (a0 i) 0#32) (IntOp.cmpi .slt (a0 i) (BitVec.ofNat 32 100000)) = 1#1 := e1
  rw [WordCmp.andi_sge_zero_slt_ofNat (by decide)] at e2
  by_contra hn
  simp [hn] at e2

end Cert.Proof.Range

end
-- ==== Proof.KernelIdeal.Tile.lean ====
/-
  One vector subcore's task of the gather kernel, with its VALUE. Subcore `s` of SparseCore `c` owns 13312 consecutive
  rows of the result, as eight chunks of 1664. For each chunk it fetches the chunk's row numbers into one of its two index
  buffers, gathers those rows of the table into one of its two row buffers, and copies the row buffer out to the chunk.
  A task reads the index list and the table through read shares and owns its eight chunks outright; it returns each chunk
  holding, at row `j`, the row of the table that word `j` of the index list names (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the TensorCore pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev iLoc (d : Dev nD) : Loc nD τ sig := (SparseCore.T d).loc main_v6
abbrev xLoc (d : Dev nD) : Loc nD τ sig := (SparseCore.T d).loc main_v7
abbrev oLoc (d : Dev nD) : Loc nD τ sig := (SparseCore.T d).loc main_v8

/-! ## The value -/

/-- Row `n`, column `e` of the table. -/
def tabIx (n : ℕ) (e : Fin 16) : S2600000x16.Idx
  | 0 => ⟨n % 2600000, Nat.mod_lt _ (by decide)⟩
  | 1 => e

/-- Word `r` of the index list. -/
def listIx (r : Fin 425984) : S425984.Idx
  | 0 => r

/-- What the call leaves in its result: row `j 0` is the table's row named by word `j 0` of the list. -/
def gath (x6 : S425984.Idx → Elt F .i32) (x7 : S2600000x16.Idx → Elt F .f32) : S425984x16.Idx → Elt F .f32 :=
  fun j => x7 (tabIx (x6 (listIx (j 0))).toNat (j 1))

/-! ## The chunks of the result -/

theorem odiv : 256 ∣ S425984x16.size 0 := ⟨1664, rfl⟩
abbrev chunk (i : Fin 256) : Rect S425984x16 := Rect.part (s := S425984x16) (a₀ := 0) odiv i
abbrev chunkSet (i : Fin 256) : Finset S425984x16.Idx := ((Memref.whole main_v8_scv : Memref sig .scVector .hbm S425984x16 .f32).view.slice (chunk i)).set
/-- Chunk `k` of the task on subcore `s` of SparseCore `c`. -/
def cix (c : Fin 2) (s : Fin 16) (k : Fin 8) : Fin 256 := ⟨(s.val * 2 + c.val) * 8 + k.val, by omega⟩
/-- The task's place among the 32. -/
def tix (c : Fin 2) (s : Fin 16) : Fin 32 := ⟨s.val * 2 + c.val, by omega⟩
/-- The task's share of what all read. -/
abbrev tq (c : Fin 2) (s : Fin 16) : PosShare TreeShare := Idealize.ShloMosaic.pieceOf fullShare 32 (by decide) (tix c s)

/-- What the call's operands and result hold when it is made. -/
structure Ops (F : FTy → Type) where
  x6 : (d : Dev nD) → Buf (Elt F) (iLoc d)
  x7 : (d : Dev nD) → Buf (Elt F) (xLoc d)
  x8 : (d : Dev nD) → Buf (Elt F) (oLoc d)

/-- Every word of the list names a row of the table. -/
def Ops.Inb (X : Ops F) : Prop := ∀ (d : Dev nD) (j : S425984.Idx), (X.x6 d j : BitVec 32).toNat < 2600000

variable (X : Ops F)

/-- The result's contents after the call. -/
abbrev Ops.y (X : Ops F) (d : Dev nD) : Buf (Elt F) (oLoc d) := gath (X.x6 d) (X.x7 d)

abbrev goPts (d : Dev nD) (c : Fin 2) (s : Fin 16) (f : Buf (Elt F) (oLoc d)) : sProp 𝕄 :=
  iprop((iLoc d ↦{tq c s} X.x6 d) ∗ (xLoc d ↦{tq c s} X.x7 d)
    ∗ bigSep Finset.univ fun k : Fin 8 => oLoc d ↦[chunkSet (cix c s k)]{fullShare} f)

variable [FloatOps F] [Named F]

/-! ## The task's accesses -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The chunk's rows of the list and of the result, as the task addresses them. -/
abbrev iK (L : grid0.Coords) (w : BitVec 32) (h : ∀ a, k0_off1 L w a + S1664.size a ≤ S425984.size a) : Memref sig .scVector .hbm S1664 .i32 :=
  (Memref.whole main_v6_scv : Memref sig .scVector .hbm S425984 .i32).slice (Rect.unit (s := S425984) (k0_off1 L w) S1664.size h) (fun _ => rfl)
abbrev oK (L : grid0.Coords) (w : BitVec 32) (h : ∀ a, k0_off2 L w a + S1664x16.size a ≤ S425984x16.size a) : Memref sig .scVector .hbm S1664x16 .f32 :=
  (Memref.whole main_v8_scv : Memref sig .scVector .hbm S425984x16 .f32).slice (Rect.unit (s := S425984x16) (k0_off2 L w) S1664x16.size h) (fun _ => rfl)
abbrev xK : Memref sig .scVector .hbm S2600000x16 .f32 :=
  (Memref.whole main_v7_scv : Memref sig .scVector .hbm S2600000x16 .f32).slice (Rect.unit (s := S2600000x16) ![0, 0] S2600000x16.size inb_S2600000x16_S2600000x16_0_0) (fun _ => rfl)

theorem oRect_eq (k : Fin 8) : Rect.unit (s := S425984x16) (k0_off2 L (BitVec.ofNat 32 (1664 * k.val))) S1664x16.size (k0_off2_inb L k) = chunk (cix (cL L) (jL L) k) := by
  unfold chunk Rect.part Rect.block
  congr 1 <;> funext a
  · rw [k0_off2_eq]
    match a with
    | 0 => simp [Shape.partIx, Shape.partSize, cix]; omega
    | 1 => simp [Shape.partIx, Shape.partSize]
  · match a with
    | 0 => simp [Shape.partSize]
    | 1 => simp [Shape.partSize]

theorem set_oK (k : Fin 8) : (oK L (BitVec.ofNat 32 (1664 * k.val)) (k0_off2_inb L k)).view.set = chunkSet (cix (cL L) (jL L) k) := by
  show ((Memref.whole main_v8_scv : Memref sig .scVector .hbm S425984x16 .f32).view.slice (Rect.unit (s := S425984x16) (k0_off2 L (BitVec.ofNat 32 (1664 * k.val))) S1664x16.size (k0_off2_inb L k))).set = _
  exact oRect_eq L k ▸ rfl

theorem pts_oK (k : Fin 8) (f : Buf (Elt F) (oLoc d)) :
    ((oK L (BitVec.ofNat 32 (1664 * k.val)) (k0_off2_inb L k)).view.loc (V d (cV L) (jV L)) ↦[(oK L (BitVec.ofNat 32 (1664 * k.val)) (k0_off2_inb L k)).view.set]{fullShare} f : sProp 𝕄)
      = oLoc d ↦[chunkSet (cix (cL L) (jL L) k)]{fullShare} f := by
  rw [set_oK]

/-! ## The task's semaphores and buffers -/

abbrev semOf : Fin 12 → SemLoc sig :=
  ![.dma cc0_scratch4.sem, .dma cc0_scratch5.sem, .dma cc0_scratch6.sem, .dma cc0_scratch7.sem, .dma cc0_scoped0.sem, .dma cc0_scoped1.sem,
    .dma cc0_scoped2.sem, .dma cc0_scoped3.sem, .dma cc0_scoped4.sem, .dma cc0_scoped5.sem, .dma cc0_scoped6.sem, .dma cc0_scoped7.sem]
theorem semOf_inj : Function.Injective semOf := by decide
theorem semOf_scoped : ∀ k, (semOf k).isScoped .scVector = true := by decide
def cellEmb (t : Thread nD τ) : Fin 12 ↪ GSem nD τ sig := ⟨fun k => (t, semOf k), fun _ _ h => semOf_inj (Prod.mk.inj h).2⟩

theorem ownSems0_V :
    (ownSems0 (V d (cV L) (jV L)) : sProp 𝕄)
      = iprop((bigSep Finset.univ fun k : Fin 12 => semVal (V d (cV L) (jV L), semOf k) 0)
          ∗ bigSep (ownCells (V d (cV L) (jV L)) \ Finset.univ.map (cellEmb (V d (cV L) (jV L)))) fun g => semVal g 0) := by
  unfold SparseCore.Cfg.ownSems0
  have hsub : Finset.univ.map (cellEmb (V d (cV L) (jV L))) ⊆ ownCells (V d (cV L) (jV L)) := by
    intro g hg
    obtain ⟨k, -, rfl⟩ := Finset.mem_map.mp hg
    exact mem_ownCells.mpr ⟨rfl, semOf_scoped k⟩
  conv_lhs => rw [← Finset.union_sdiff_of_subset hsub]
  rw [SparseCore.bigSep_union' Finset.disjoint_sdiff, bigSep_map]
  rfl

theorem sems_eq (t : Thread nD τ) : (bigSep Finset.univ fun k : Fin 12 => (semVal (t, semOf k) 0 : sProp 𝕄))
    = iprop(semVal (t, SemLoc.dma cc0_scratch4.sem) 0 ∗ semVal (t, SemLoc.dma cc0_scratch5.sem) 0 ∗ semVal (t, SemLoc.dma cc0_scratch6.sem) 0 ∗ semVal (t, SemLoc.dma cc0_scratch7.sem) 0 ∗ semVal (t, SemLoc.dma cc0_scoped0.sem) 0 ∗ semVal (t, SemLoc.dma cc0_scoped1.sem) 0 ∗ semVal (t, SemLoc.dma cc0_scoped2.sem) 0 ∗ semVal (t, SemLoc.dma cc0_scoped3.sem) 0 ∗ semVal (t, SemLoc.dma cc0_scoped4.sem) 0 ∗ semVal (t, SemLoc.dma cc0_scoped5.sem) 0 ∗ semVal (t, SemLoc.dma cc0_scoped6.sem) 0 ∗ semVal (t, SemLoc.dma cc0_scoped7.sem) 0) :=
  bigSep_univ_eq_bigSepL [0, 1, 2, 3, 4, 5, 6, 7, 8, 9, 10, 11] (by decide) (by decide) _
theorem bigSep_fin8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

abbrev bufOf : Fin 4 → Ref sig .scVector := ![cc0_scratch0, cc0_scratch1, cc0_scratch2, cc0_scratch3]
theorem bufOf_inj : Function.Injective bufOf := by decide
def bufEmb (d : Dev nD) (L : grid0.Coords) : Fin 4 ↪ DevRef τ sig :=
  ⟨fun k => (Proc.scVector (cV L) (jV L)).devRef (bufOf k), fun _ _ h => bufOf_inj (Proc.devRef_injective _ h)⟩

theorem bufs_eq (c : Fin τ.nSC) (j : Fin τ.nSub) : (bigSep Finset.univ fun k : Fin 4 => (iprop(∃ f, (V d c j).loc (bufOf k) ↦{fullShare} f) : sProp 𝕄))
    = iprop((∃ f, (V d c j).loc cc0_scratch0 ↦{fullShare} f) ∗ (∃ f, (V d c j).loc cc0_scratch1 ↦{fullShare} f) ∗ (∃ f, (V d c j).loc cc0_scratch2 ↦{fullShare} f) ∗ (∃ f, (V d c j).loc cc0_scratch3 ↦{fullShare} f)) :=
  bigSep_univ_eq_bigSepL [0, 1, 2, 3] (by decide) (by decide) _

theorem ownBufs_V :
    (ownBufs (V d (cV L) (jV L)) : sProp 𝕄)
      = iprop((bigSep Finset.univ fun k : Fin 4 => iprop(∃ f, (V d (cV L) (jV L) : Thread nD τ).loc (bufOf k) ↦{fullShare} f))
          ∗ bigSep (ownRefs (τ := τ) (.scVector (cV L) (jV L)) \ Finset.univ.map (bufEmb d L)) fun b => iprop(∃ f, ((d, b) : Loc nD τ sig) ↦{fullShare} f)) := by
  unfold SparseCore.Cfg.ownBufs
  have hsub : Finset.univ.map (bufEmb d L) ⊆ ownRefs (τ := τ) (sig := sig) (.scVector (cV L) (jV L)) := by
    intro g hg
    obtain ⟨k, -, rfl⟩ := Finset.mem_map.mp hg
    refine SparseCore.Cfg.mem_ownRefs_of_owner (p := Proc.scVector (cV L) (jV L)) ?_
    fin_cases k <;> rfl
  show bigSep (ownRefs (τ := τ) (sig := sig) (.scVector (cV L) (jV L))) _ = _
  conv_lhs => rw [← Finset.union_sdiff_of_subset hsub]
  rw [SparseCore.bigSep_union' Finset.disjoint_sdiff, bigSep_map]
  rfl

/-- A task that waits on one more of its own semaphores waits on nothing else. -/
theorem waits_ins {W W' : Waits sig (HIx 1)} (s : SemLoc sig) (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

/-- The row numbers a fetch lands in either index buffer are in range. -/
theorem inb_a (hX : X.Inb) (w : BitVec 32) (h : ∀ a, k0_off1 L w a + S1664.size a ≤ S425984.size a) (g : (Memref.whole cc0_scratch0 : Memref sig .scVector .vmem S1664 .i32).view.ty.Contents (Elt F)) (j : S1664.Idx) :
    ((Memref.whole cc0_scratch0 : Memref sig .scVector .vmem S1664 .i32).view.read (Elt F) (View.write (Elt F) (Memref.whole cc0_scratch0 : Memref sig .scVector .vmem S1664 .i32).view g (ReadAs.same.apply ((iK L w h).view.read (Elt F) (X.x6 d))) Finset.univ) j).toNat
      < S2600000x16.size gathers_S2600000x16_S1664x16.axis := by
  rw [View.write_whole_univ]
  exact hX d _
theorem inb_b (hX : X.Inb) (w : BitVec 32) (h : ∀ a, k0_off1 L w a + S1664.size a ≤ S425984.size a) (g : (Memref.whole cc0_scratch1 : Memref sig .scVector .vmem S1664 .i32).view.ty.Contents (Elt F)) (j : S1664.Idx) :
    ((Memref.whole cc0_scratch1 : Memref sig .scVector .vmem S1664 .i32).view.read (Elt F) (View.write (Elt F) (Memref.whole cc0_scratch1 : Memref sig .scVector .vmem S1664 .i32).view g (ReadAs.same.apply ((iK L w h).view.read (Elt F) (X.x6 d))) Finset.univ) j).toNat
      < S2600000x16.size gathers_S2600000x16_S1664x16.axis := by
  rw [View.write_whole_univ]
  exact hX d _

/-- An element of the row buffer gathered through a list buffer that holds chunk `k`'s words is the result's element at
    the place the copy out puts it: for either list buffer, given what a read of it yields. -/
theorem gath_emb (k : Fin 8) (l : S1664.Idx → Elt F .i32)
    (hl : ∀ j, l j = X.x6 d ((iK L (BitVec.ofNat 32 (1664 * k.val)) (k0_off1_inb L k)).view.emb j))
    (hn : S1664.numel = S1664x16.size gathers_S2600000x16_S1664x16.axis')
    (hin : ∀ j, (l j : BitVec 32).toNat < S2600000x16.size gathers_S2600000x16_S1664x16.axis) (x : S1664x16.Idx) :
    SparseCore.gatherPayload gathers_S2600000x16_S1664x16 ((xK).view.read (Elt F) (X.x7 d)) (SparseCore.rows l hn hin) x
      = X.y d ((oK L (BitVec.ofNat 32 (1664 * k.val)) (k0_off2_inb L k)).view.emb x) := by
  have hlist : (iK L (BitVec.ofNat 32 (1664 * k.val)) (k0_off1_inb L k)).view.emb (S1664.rowMajor.symm ((x 0).cast hn.symm))
      = listIx (((oK L (BitVec.ofNat 32 (1664 * k.val)) (k0_off2_inb L k)).view.emb x) 0) := by
    funext a
    match a with
    | 0 =>
      refine Fin.ext ?_
      have h0 := Shape.rowMajor_val_one (S1664.rowMajor.symm ((x 0).cast hn.symm))
      rw [Equiv.apply_symm_apply] at h0
      show k0_off1 L (BitVec.ofNat 32 (1664 * k.val)) 0 + 1 * ((S1664.rowMajor.symm ((x 0).cast hn.symm)) 0).val
        = k0_off2 L (BitVec.ofNat 32 (1664 * k.val)) 0 + 1 * (x 0).val
      rw [← h0, k0_off1_eq, k0_off2_eq]
      rfl
  show X.x7 d ((xK).view.emb (Shape.Gathers.idx _ _ x)) = X.x7 d (tabIx _ _)
  congr 1
  have hrow : (SparseCore.rows l hn hin (x 0)).val
      = (X.x6 d (listIx (((oK L (BitVec.ofNat 32 (1664 * k.val)) (k0_off2_inb L k)).view.emb x) 0)) : BitVec 32).toNat := by
    rw [← hlist, ← hl]; rfl
  funext a
  match a with
  | 0 =>
    refine Fin.ext ?_
    show 0 + 1 * (Shape.Gathers.idx gathers_S2600000x16_S1664x16 (SparseCore.rows l hn hin) x 0).val = _ % 2600000
    have hlt : (SparseCore.rows l hn hin (x 0)).val < 2600000 := (SparseCore.rows l hn hin (x 0)).isLt
    rw [← hrow, Nat.mod_eq_of_lt hlt, zero_add, one_mul]
    exact congrArg Fin.val (Shape.Gathers.idx_axis gathers_S2600000x16_S1664x16 (SparseCore.rows l hn hin) x)
  | 1 =>
    refine Fin.ext ?_
    show 0 + 1 * (Shape.Gathers.idx gathers_S2600000x16_S1664x16 (SparseCore.rows l hn hin) x 1).val
      = (((oK L (BitVec.ofNat 32 (1664 * k.val)) (k0_off2_inb L k)).view.emb x) 1).val
    rw [Shape.Gathers.idx_of_ne _ _ _ _ (by decide), zero_add, one_mul]
    show (x 1).val = k0_off2 L (BitVec.ofNat 32 (1664 * k.val)) 1 + 1 * (x 1).val
    rw [k0_off2_eq]
    show _ = 0 + _
    omega

/-- What a fetch of chunk `k`'s words left in the first index buffer; -/
theorem list_a (k : Fin 8) (g : (Memref.whole cc0_scratch0 : Memref sig .scVector .vmem S1664 .i32).view.ty.Contents (Elt F)) (j : S1664.Idx) :
    (Memref.whole cc0_scratch0 : Memref sig .scVector .vmem S1664 .i32).view.read (Elt F) (View.write (Elt F) (Memref.whole cc0_scratch0 : Memref sig .scVector .vmem S1664 .i32).view g (ReadAs.same.apply ((iK L (BitVec.ofNat 32 (1664 * k.val)) (k0_off1_inb L k)).view.read (Elt F) (X.x6 d))) Finset.univ) j
      = X.x6 d ((iK L (BitVec.ofNat 32 (1664 * k.val)) (k0_off1_inb L k)).view.emb j) := by
  rw [View.write_whole_univ]; rfl
/-- in the second. -/
theorem list_b (k : Fin 8) (g : (Memref.whole cc0_scratch1 : Memref sig .scVector .vmem S1664 .i32).view.ty.Contents (Elt F)) (j : S1664.Idx) :
    (Memref.whole cc0_scratch1 : Memref sig .scVector .vmem S1664 .i32).view.read (Elt F) (View.write (Elt F) (Memref.whole cc0_scratch1 : Memref sig .scVector .vmem S1664 .i32).view g (ReadAs.same.apply ((iK L (BitVec.ofNat 32 (1664 * k.val)) (k0_off1_inb L k)).view.read (Elt F) (X.x6 d))) Finset.univ) j
      = X.x6 d ((iK L (BitVec.ofNat 32 (1664 * k.val)) (k0_off1_inb L k)).view.emb j) := by
  rw [View.write_whole_univ]; rfl

/-- A whole-shape write through any memref lands as written. -/
theorem write_whole_piece {κ : Kind} {sp : Space} {e : EltTy} (v : View sig κ sp S1664x16 e) (f : v.ty.Contents (Elt F)) (P : S1664x16.Idx → Elt F e) (x : S1664x16.Idx) :
    v.writes (Elt F) f [⟨Rect.whole S1664x16, P⟩] (v.emb x) = _root_.cast (congrArg (Elt F) v.elt_eq.symm) (P x) := by
  have e : v.emb x = (v.slice (Rect.whole S1664x16)).emb x := congrArg v.emb (funext fun a => Fin.ext (by show _ = 0 + 1 * (x a).val; omega))
  rw [e]
  exact View.write_emb_of_mem (v := v.slice (Rect.whole S1664x16)) f P (Finset.mem_univ x)

theorem whole_emb (x : S1664x16.Idx) : (Rect.whole S1664x16).emb x = x :=
  funext fun a => Fin.ext (by show 0 + 1 * (x a).val = _; omega)

/-- A copy out of a whole row buffer carries the buffer's last gather. -/
theorem last_r (g : (Memref.whole cc0_scratch2 : Memref sig .scVector .vmem S1664x16 .f32).view.ty.Contents (Elt F)) (G : S1664x16.Idx → Elt F .f32) (l : List (View.Piece (Elt F) S1664x16 .f32)) (x : S1664x16.Idx) :
    (ReadAs.same : ReadAs (Elt F) S1664x16 .f32 S1664x16 .f32).apply ((Memref.whole cc0_scratch2 : Memref sig .scVector .vmem S1664x16 .f32).view.read (Elt F) ((Memref.whole cc0_scratch2 : Memref sig .scVector .vmem S1664x16 .f32).view.writes (Elt F) g (⟨Rect.whole S1664x16, G⟩ :: l))) x = G x := by
  have h := View.read_writes_cons_emb (Val := Elt F) (Memref.whole cc0_scratch2 : Memref sig .scVector .vmem S1664x16 .f32).view g (Rect.whole S1664x16) G l x
  rwa [show (Rect.whole S1664x16).emb x = x from whole_emb x] at h
theorem last_s (g : (Memref.whole cc0_scratch3 : Memref sig .scVector .vmem S1664x16 .f32).view.ty.Contents (Elt F)) (G : S1664x16.Idx → Elt F .f32) (l : List (View.Piece (Elt F) S1664x16 .f32)) (x : S1664x16.Idx) :
    (ReadAs.same : ReadAs (Elt F) S1664x16 .f32 S1664x16 .f32).apply ((Memref.whole cc0_scratch3 : Memref sig .scVector .vmem S1664x16 .f32).view.read (Elt F) ((Memref.whole cc0_scratch3 : Memref sig .scVector .vmem S1664x16 .f32).view.writes (Elt F) g (⟨Rect.whole S1664x16, G⟩ :: l))) x = G x := by
  have h := View.read_writes_cons_emb (Val := Elt F) (Memref.whole cc0_scratch3 : Memref sig .scVector .vmem S1664x16 .f32).view g (Rect.whole S1664x16) G l x
  rwa [show (Rect.whole S1664x16).emb x = x from whole_emb x] at h

/-- A chunk written with the result's elements holds the result's elements; -/
theorem out_val (k : Fin 8) (P : S1664x16.Idx → Elt F .f32)
    (hP : ∀ x, P x = X.y d ((oK L (BitVec.ofNat 32 (1664 * k.val)) (k0_off2_inb L k)).view.emb x)) (x : S1664x16.Idx) :
    (oK L (BitVec.ofNat 32 (1664 * k.val)) (k0_off2_inb L k)).view.writes (Elt F) (X.x8 d) [⟨Rect.whole S1664x16, P⟩]
      ((oK L (BitVec.ofNat 32 (1664 * k.val)) (k0_off2_inb L k)).view.emb x)
      = X.y d ((oK L (BitVec.ofNat 32 (1664 * k.val)) (k0_off2_inb L k)).view.emb x) := by
  exact (write_whole_piece (F := F) (oK L (BitVec.ofNat 32 (1664 * k.val)) (k0_off2_inb L k)).view (X.x8 d) P x).trans ((cast_eq _ _).trans (hP x))

/-- so it is the chunk of the result. -/
theorem out_pts (k : Fin 8) (f : Buf (Elt F) (oLoc d))
    (hf : ∀ x, f ((oK L (BitVec.ofNat 32 (1664 * k.val)) (k0_off2_inb L k)).view.emb x) = X.y d ((oK L (BitVec.ofNat 32 (1664 * k.val)) (k0_off2_inb L k)).view.emb x)) :
    ((oK L (BitVec.ofNat 32 (1664 * k.val)) (k0_off2_inb L k)).view.loc (V d (cV L) (jV L)) ↦[(oK L (BitVec.ofNat 32 (1664 * k.val)) (k0_off2_inb L k)).view.set]{fullShare} f : sProp 𝕄)
      ⊢ oLoc d ↦[chunkSet (cix (cL L) (jL L) k)]{fullShare} X.y d := by
  rw [pts_oK]
  refine Entails.of_eq (pointsTo_congr fun i hi => ?_)
  rw [← set_oK] at hi
  obtain ⟨x, -, hx⟩ := Finset.mem_map.mp hi
  rw [← hx]
  exact hf x

set_option maxHeartbeats 4000000 in
theorem tile_body (hF : (K (F := F)).Facts) (hX : X.Inb) (O : CellTallies nD τ sig (HIx 1)) (W : Waits sig (HIx 1)) (hO : ∀ g, O g none = 0) :
    iprop(levAts (K (F := F)).L (K (F := F)).lev ∗ emp
        ∗ goPts X d (cL L) (jL L) (X.x8 d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L (Memref.whole main_v6_scv : Memref sig .scVector .hbm S425984 .i32) (Memref.isWhole_whole _) (Memref.whole main_v7_scv : Memref sig .scVector .hbm S2600000x16 .f32) (Memref.isWhole_whole _) (Memref.whole main_v8_scv : Memref sig .scVector .hbm S425984x16 .f32) (Memref.isWhole_whole _)
            (Memref.whole cc0_scratch0 : Memref sig .scVector .vmem S1664 .i32) (Memref.isWhole_whole _) (Memref.whole cc0_scratch1 : Memref sig .scVector .vmem S1664 .i32) (Memref.isWhole_whole _) (Memref.whole cc0_scratch2 : Memref sig .scVector .vmem S1664x16 .f32) (Memref.isWhole_whole _) (Memref.whole cc0_scratch3 : Memref sig .scVector .vmem S1664x16 .f32) (Memref.isWhole_whole _)
            cc0_scratch4 cc0_scratch5 cc0_scratch6 cc0_scratch7 cc0_scoped0 cc0_scoped1 cc0_scoped2 cc0_scoped3 cc0_scoped4 cc0_scoped5 cc0_scoped6 cc0_scoped7)
          fun _ => iprop(goPts X d (cL L) (jL L) (X.y d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part1_eq_skeleton, k0_part2_eq_skeleton, k0_part3_eq_skeleton]
  unfold k0_part1_skel k0_part2_skel k0_part3_skel
  rw [(K (F := F)).scopedBufs_V hF d (cV L) (jV L), SparseCore.Cfg.scopedSems0_V (Val := Elt F) d (cV L) (jV L), ownSems0_V, ownBufs_V]
  rw [sems_eq, bufs_eq]
  unfold goPts
  rw [bigSep_fin8]
  iintro ⟨#Hlv, -, ⟨Hi, Hx, ⟨Ho0, Ho1, Ho2, Ho3, Ho4, Ho5, Ho6, Ho7⟩⟩, ⟨⟨⟨%fa, Ha⟩, ⟨%fb, Hb⟩, ⟨%fr, Hr⟩, ⟨%fs, Hs⟩⟩, Hbufs⟩, ⟨⟨Hm0, Hm1, Hm2, Hm3, Hm4, Hm5, Hm6, Hm7, Hm8, Hm9, Hm10, Hm11⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (show ((iLoc d ↦{tq (cL L) (jL L)} X.x6 d : sProp 𝕄) ⊢ (Memref.whole main_v6_scv : Memref sig .scVector .hbm S425984 .i32).view.loc (V d (cV L) (jV L)) ↦{tq (cL L) (jL L)} X.x6 d) from .rfl) $$ Hi
  ihave Hx := (show ((xLoc d ↦{tq (cL L) (jL L)} X.x7 d : sProp 𝕄) ⊢ (Memref.whole main_v7_scv : Memref sig .scVector .hbm S2600000x16 .f32).view.loc (V d (cV L) (jV L)) ↦{tq (cL L) (jL L)} X.x7 d) from .rfl) $$ Hx
  ihave Hx := (pointsTo_share (PosShare.mem_left_op_right _)).1 $$ Hx
  icases Hx with ⟨Hx, Hxx⟩
  ihave Ha := (show ((V d (cV L) (jV L)).loc cc0_scratch0 ↦{fullShare} fa : sProp 𝕄) ⊢ (Memref.whole cc0_scratch0 : Memref sig .scVector .vmem S1664 .i32).view.loc (V d (cV L) (jV L)) ↦{fullShare} fa from .rfl) $$ Ha
  ihave Hb := (show ((V d (cV L) (jV L)).loc cc0_scratch1 ↦{fullShare} fb : sProp 𝕄) ⊢ (Memref.whole cc0_scratch1 : Memref sig .scVector .vmem S1664 .i32).view.loc (V d (cV L) (jV L)) ↦{fullShare} fb from .rfl) $$ Hb
  ihave Hr := (show ((V d (cV L) (jV L)).loc cc0_scratch2 ↦{fullShare} fr : sProp 𝕄) ⊢ (Memref.whole cc0_scratch2 : Memref sig .scVector .vmem S1664x16 .f32).view.loc (V d (cV L) (jV L)) ↦{fullShare} fr from .rfl) $$ Hr
  ihave Hs := (show ((V d (cV L) (jV L)).loc cc0_scratch3 ↦{fullShare} fs : sProp 𝕄) ⊢ (Memref.whole cc0_scratch3 : Memref sig .scVector .vmem S1664x16 .f32).view.loc (V d (cV L) (jV L)) ↦{fullShare} fs from .rfl) $$ Hs
  ihave Ho0 := (Entails.of_eq (pts_oK (F := F) d L 0 _).symm) $$ Ho0
  ihave Ho1 := (Entails.of_eq (pts_oK (F := F) d L 1 _).symm) $$ Ho1
  ihave Ho2 := (Entails.of_eq (pts_oK (F := F) d L 2 _).symm) $$ Ho2
  ihave Ho3 := (Entails.of_eq (pts_oK (F := F) d L 3 _).symm) $$ Ho3
  ihave Ho4 := (Entails.of_eq (pts_oK (F := F) d L 4 _).symm) $$ Ho4
  ihave Ho5 := (Entails.of_eq (pts_oK (F := F) d L 5 _).symm) $$ Ho5
  ihave Ho6 := (Entails.of_eq (pts_oK (F := F) d L 6 _).symm) $$ Ho6
  ihave Ho7 := (Entails.of_eq (pts_oK (F := F) d L 7 _).symm) $$ Ho7
  have hinA := inb_a X d L hX
  have hinB := inb_b X d L hX
  sl_exec
  sl_step
  ihave Ho0 := out_pts X d L 0 _ (out_val X d L 0 (tile_body.sl.dma0_2 X d L fa fr hinA) (fun x => (last_r _ _ _ x).trans (gath_emb X d L 0 _ (list_a X d L 0 _) _ _ x))) $$ Ho0
  ihave Ho2 := out_pts X d L 2 _ (out_val X d L 2 (tile_body.sl.dma0_6 X d L fa fr hinA) (fun x => (last_r _ _ _ x).trans (gath_emb X d L 2 _ (list_a X d L 2 _) _ _ x))) $$ Ho2
  ihave Ho4 := out_pts X d L 4 _ (out_val X d L 4 (tile_body.sl.dma0_10 X d L fa fr hinA) (fun x => (last_r _ _ _ x).trans (gath_emb X d L 4 _ (list_a X d L 4 _) _ _ x))) $$ Ho4
  ihave Ho6 := out_pts X d L 6 _ (out_val X d L 6 (tile_body.sl.dma0_14 X d L fa fr hinA) (fun x => (last_r _ _ _ x).trans (gath_emb X d L 6 _ (list_a X d L 6 _) _ _ x))) $$ Ho6
  ihave Ho1 := out_pts X d L 1 _ (out_val X d L 1 (tile_body.sl.dma0_4 X d L fb fs hinB) (fun x => (last_s _ _ _ x).trans (gath_emb X d L 1 _ (list_b X d L 1 _) _ _ x))) $$ Ho1
  ihave Ho3 := out_pts X d L 3 _ (out_val X d L 3 (tile_body.sl.dma0_8 X d L fb fs hinB) (fun x => (last_s _ _ _ x).trans (gath_emb X d L 3 _ (list_b X d L 3 _) _ _ x))) $$ Ho3
  ihave Ho5 := out_pts X d L 5 _ (out_val X d L 5 (tile_body.sl.dma0_12 X d L fb fs hinB) (fun x => (last_s _ _ _ x).trans (gath_emb X d L 5 _ (list_b X d L 5 _) _ _ x))) $$ Ho5
  ihave Ho7 := out_pts X d L 7 _ (out_val X d L 7 (tile_body.sl.dma0_15 X d L fb fs hinB) (fun x => (last_s _ _ _ x).trans (gath_emb X d L 7 _ (list_b X d L 7 _) _ _ x))) $$ Ho7
  ihave Hx := (pointsTo_share (PosShare.mem_left_op_right _)).2 $$ [Hx Hxx]
  · isplitl [Hx]
    · iexact Hx
    · iexact Hxx
  isplitl [Hi Hx Ho0 Ho1 Ho2 Ho3 Ho4 Ho5 Ho6 Ho7]
  · rw [bigSep_fin8]
    isplitl [Hi]; · iexact Hi
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Ha Hb Hr Hs Hbufs]
  · isplitr [Hbufs]
    · isplitl [Ha]; · iexists _; iexact Ha
      isplitl [Hb]; · iexists _; iexact Hb
      isplitl [Hr]; · iexists _; iexact Hr
      iexists _; iexact Hs
    · iexact Hbufs
  isplitr [HO]
  · isplitr [Hsems]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      iexact Hm11
    · iexact Hsems
  iexists _
  isplitr
  swap
  · iexact HO
  · ipureintro
    repeat refine waits_ins _ ?_
    exact fun p hp => Or.inl hp

end Tile

end Cert.Proof.KernelIdeal

end
-- ==== Proof.KernelIdeal.Mlp.lean ====
/-
  The TensorCore kernel of the program with its VALUE: the two-layer perceptron over one block of 2048 rows (`mlp`), its
  body's triple, the pipeline's proof data over the sixteen windows at the arrays' contents on entry, and the region that
  the launch's TensorCore runs after the gather.
-/
module

public import proofs.«01_k».proof.Proof.KernelIdeal.Tile
public import proofs.«01_k».proof.Proof.Gen.KernelIdeal.Launch
public import proofs.«01_k».proof.Proof.Gen.KernelIdeal.Points
public import Idealize.ShloMosaic.Lib.VecWindow
public import Idealize.ShloMosaic.Lib.Pipeline.FrameBody
public import Idealize.ShloMosaic.Lib.Pipeline.RegionsLoop

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## The value of one block -/

/-- What the kernel writes for one block of 2048 rows: from the block of gathered rows, the block of continuous features
    and the parameters, in the windows' order. -/
def mlp (x0 : Vec F S2048x416 .f32) (x1 : Vec F S2048x13 .f32) (x2 : Vec F S1x13 .f32) (x3 : Vec F S1x13 .f32) (x4 : Vec F S416x512 .f32) (x5 : Vec F S13x512 .f32) (x6 : Vec F S1x512 .f32) (x7 : Vec F S1x512 .f32) (x8 : Vec F S1x512 .f32) (x9 : Vec F S512x256 .f32) (x10 : Vec F S1x256 .f32) (x11 : Vec F S1x256 .f32) (x12 : Vec F S1x256 .f32) (x13 : Vec F S256x2 .f32) (x14 : Vec F S1x2 .f32) : Vec F S2048x2 .f32 :=
  k1_pay1 (k1_pay2 x2 x1 x3 x0 x4 x5 x6 x7 x8) x9 x10 x11 x12 x13 x14

/-! ## The body's triple -/

set_option maxHeartbeats 4000000 in
set_option maxRecDepth 65536 in
theorem sound_kernel (d : Dev nD) (i : grid1.Coords) (E : Set ℕ) (M0 : Memref sig .tc .vmem S2048x416 .f32) (h0 : M0.IsWhole) (M1 : Memref sig .tc .vmem S2048x13 .f32) (h1 : M1.IsWhole) (M2 : Memref sig .tc .vmem S1x13 .f32) (h2 : M2.IsWhole) (M3 : Memref sig .tc .vmem S1x13 .f32) (h3 : M3.IsWhole) (M4 : Memref sig .tc .vmem S416x512 .f32) (h4 : M4.IsWhole) (M5 : Memref sig .tc .vmem S13x512 .f32) (h5 : M5.IsWhole) (M6 : Memref sig .tc .vmem S1x512 .f32) (h6 : M6.IsWhole) (M7 : Memref sig .tc .vmem S1x512 .f32) (h7 : M7.IsWhole) (M8 : Memref sig .tc .vmem S1x512 .f32) (h8 : M8.IsWhole) (M9 : Memref sig .tc .vmem S512x256 .f32) (h9 : M9.IsWhole) (M10 : Memref sig .tc .vmem S1x256 .f32) (h10 : M10.IsWhole) (M11 : Memref sig .tc .vmem S1x256 .f32) (h11 : M11.IsWhole) (M12 : Memref sig .tc .vmem S1x256 .f32) (h12 : M12.IsWhole) (M13 : Memref sig .tc .vmem S256x2 .f32) (h13 : M13.IsWhole) (M14 : Memref sig .tc .vmem S1x2 .f32) (h14 : M14.IsWhole) (M15 : Memref sig .tc .vmem S2048x2 .f32) (h15 : M15.IsWhole)
    (x0 : Vec F S2048x416 .f32) (x1 : Vec F S2048x13 .f32) (x2 : Vec F S1x13 .f32) (x3 : Vec F S1x13 .f32) (x4 : Vec F S416x512 .f32) (x5 : Vec F S13x512 .f32) (x6 : Vec F S1x512 .f32) (x7 : Vec F S1x512 .f32) (x8 : Vec F S1x512 .f32) (x9 : Vec F S512x256 .f32) (x10 : Vec F S1x256 .f32) (x11 : Vec F S1x256 .f32) (x12 : Vec F S1x256 .f32) (x13 : Vec F S256x2 .f32) (x14 : Vec F S1x2 .f32) (Q : PUnit → sProp 𝕄) :
    iprop(owns (SparseCore.T d) M0 fullShare x0 ∗ owns (SparseCore.T d) M1 fullShare x1 ∗ owns (SparseCore.T d) M2 fullShare x2 ∗ owns (SparseCore.T d) M3 fullShare x3 ∗ owns (SparseCore.T d) M4 fullShare x4 ∗ owns (SparseCore.T d) M5 fullShare x5 ∗ owns (SparseCore.T d) M6 fullShare x6 ∗ owns (SparseCore.T d) M7 fullShare x7 ∗ owns (SparseCore.T d) M8 fullShare x8 ∗ owns (SparseCore.T d) M9 fullShare x9 ∗ owns (SparseCore.T d) M10 fullShare x10 ∗ owns (SparseCore.T d) M11 fullShare x11 ∗ owns (SparseCore.T d) M12 fullShare x12 ∗ owns (SparseCore.T d) M13 fullShare x13 ∗ owns (SparseCore.T d) M14 fullShare x14 ∗ (∃ y, owns (SparseCore.T d) M15 fullShare y)
        ∗ (iprop(owns (SparseCore.T d) M0 fullShare x0 ∗ owns (SparseCore.T d) M1 fullShare x1 ∗ owns (SparseCore.T d) M2 fullShare x2 ∗ owns (SparseCore.T d) M3 fullShare x3 ∗ owns (SparseCore.T d) M4 fullShare x4 ∗ owns (SparseCore.T d) M5 fullShare x5 ∗ owns (SparseCore.T d) M6 fullShare x6 ∗ owns (SparseCore.T d) M7 fullShare x7 ∗ owns (SparseCore.T d) M8 fullShare x8 ∗ owns (SparseCore.T d) M9 fullShare x9 ∗ owns (SparseCore.T d) M10 fullShare x10 ∗ owns (SparseCore.T d) M11 fullShare x11 ∗ owns (SparseCore.T d) M12 fullShare x12 ∗ owns (SparseCore.T d) M13 fullShare x13 ∗ owns (SparseCore.T d) M14 fullShare x14 ∗ owns (SparseCore.T d) M15 fullShare (mlp x0 x1 x2 x3 x4 x5 x6 x7 x8 x9 x10 x11 x12 x13 x14)) -∗ Q ⟨⟩))
      ⊢ wp frame (wpE (defs₀ (F := F)) 𝒱₀ (SparseCore.T d) none) E (cc1__mlp_body i M0 h0 M1 h1 M2 h2 M3 h3 M4 h4 M5 h5 M6 h6 M7 h7 M8 h8 M9 h9 M10 h10 M11 h11 M12 h12 M13 h13 M14 h14 M15 h15) Q := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%y15, %f15, -, H15⟩, Hk⟩
  subst hf0 hf1 hf2 hf3 hf4 hf5 hf6 hf7 hf8 hf9 hf10 hf11 hf12 hf13 hf14
  simp only [k1_part1_eq_skeleton]
  unfold k1_part1_skel
  sl_exec
  sl_step
  iapply Hk
  isplitl [H0]; · (iexists f0; isplitr; (· ipureintro; rfl); iexact H0)
  isplitl [H1]; · (iexists f1; isplitr; (· ipureintro; rfl); iexact H1)
  isplitl [H2]; · (iexists f2; isplitr; (· ipureintro; rfl); iexact H2)
  isplitl [H3]; · (iexists f3; isplitr; (· ipureintro; rfl); iexact H3)
  isplitl [H4]; · (iexists f4; isplitr; (· ipureintro; rfl); iexact H4)
  isplitl [H5]; · (iexists f5; isplitr; (· ipureintro; rfl); iexact H5)
  isplitl [H6]; · (iexists f6; isplitr; (· ipureintro; rfl); iexact H6)
  isplitl [H7]; · (iexists f7; isplitr; (· ipureintro; rfl); iexact H7)
  isplitl [H8]; · (iexists f8; isplitr; (· ipureintro; rfl); iexact H8)
  isplitl [H9]; · (iexists f9; isplitr; (· ipureintro; rfl); iexact H9)
  isplitl [H10]; · (iexists f10; isplitr; (· ipureintro; rfl); iexact H10)
  isplitl [H11]; · (iexists f11; isplitr; (· ipureintro; rfl); iexact H11)
  isplitl [H12]; · (iexists f12; isplitr; (· ipureintro; rfl); iexact H12)
  isplitl [H13]; · (iexists f13; isplitr; (· ipureintro; rfl); iexact H13)
  isplitl [H14]; · (iexists f14; isplitr; (· ipureintro; rfl); iexact H14)
  iexists _; isplitr
  swap; · iexact H15
  ipureintro
  have e0 : View.readAt (Elt F) M0.view (Rect.unit ![0, 0] ![2048, 416] inb_S2048x416_S2048x416_0_0).toLoadRect f0 = View.read (Elt F) M0.view f0 := View.readAt_full M0.view f0 _
  have e1 : View.readAt (Elt F) M1.view (Rect.unit ![0, 0] ![2048, 13] inb_S2048x13_S2048x13_0_0).toLoadRect f1 = View.read (Elt F) M1.view f1 := View.readAt_full M1.view f1 _
  have e2 : View.readAt (Elt F) M2.view (Rect.unit ![0, 0] ![1, 13] inb_S1x13_S1x13_0_0).toLoadRect f2 = View.read (Elt F) M2.view f2 := View.readAt_full M2.view f2 _
  have e3 : View.readAt (Elt F) M3.view (Rect.unit ![0, 0] ![1, 13] inb_S1x13_S1x13_0_0).toLoadRect f3 = View.read (Elt F) M3.view f3 := View.readAt_full M3.view f3 _
  have e4 : View.readAt (Elt F) M4.view (Rect.unit ![0, 0] ![416, 512] inb_S416x512_S416x512_0_0).toLoadRect f4 = View.read (Elt F) M4.view f4 := View.readAt_full M4.view f4 _
  have e5 : View.readAt (Elt F) M5.view (Rect.unit ![0, 0] ![13, 512] inb_S13x512_S13x512_0_0).toLoadRect f5 = View.read (Elt F) M5.view f5 := View.readAt_full M5.view f5 _
  have e6 : View.readAt (Elt F) M6.view (Rect.unit ![0, 0] ![1, 512] inb_S1x512_S1x512_0_0).toLoadRect f6 = View.read (Elt F) M6.view f6 := View.readAt_full M6.view f6 _
  have e7 : View.readAt (Elt F) M7.view (Rect.unit ![0, 0] ![1, 512] inb_S1x512_S1x512_0_0).toLoadRect f7 = View.read (Elt F) M7.view f7 := View.readAt_full M7.view f7 _
  have e8 : View.readAt (Elt F) M8.view (Rect.unit ![0, 0] ![1, 512] inb_S1x512_S1x512_0_0).toLoadRect f8 = View.read (Elt F) M8.view f8 := View.readAt_full M8.view f8 _
  have e9 : View.readAt (Elt F) M9.view (Rect.unit ![0, 0] ![512, 256] inb_S512x256_S512x256_0_0).toLoadRect f9 = View.read (Elt F) M9.view f9 := View.readAt_full M9.view f9 _
  have e10 : View.readAt (Elt F) M10.view (Rect.unit ![0, 0] ![1, 256] inb_S1x256_S1x256_0_0).toLoadRect f10 = View.read (Elt F) M10.view f10 := View.readAt_full M10.view f10 _
  have e11 : View.readAt (Elt F) M11.view (Rect.unit ![0, 0] ![1, 256] inb_S1x256_S1x256_0_0).toLoadRect f11 = View.read (Elt F) M11.view f11 := View.readAt_full M11.view f11 _
  have e12 : View.readAt (Elt F) M12.view (Rect.unit ![0, 0] ![1, 256] inb_S1x256_S1x256_0_0).toLoadRect f12 = View.read (Elt F) M12.view f12 := View.readAt_full M12.view f12 _
  have e13 : View.readAt (Elt F) M13.view (Rect.unit ![0, 0] ![256, 2] inb_S256x2_S256x2_0_0).toLoadRect f13 = View.read (Elt F) M13.view f13 := View.readAt_full M13.view f13 _
  have e14 : View.readAt (Elt F) M14.view (Rect.unit ![0, 0] ![1, 2] inb_S1x2_S1x2_0_0).toLoadRect f14 = View.read (Elt F) M14.view f14 := View.readAt_full M14.view f14 _
  rw [e0, e1, e2, e3, e4, e5, e6, e7, e8, e9, e10, e11, e12, e13, e14]
  exact View.read_writes_full M15.view f15 (off := ![0, 0]) inb_S2048x2_S2048x2_0_0 _ []

/-! ## The proof data, at the arrays' contents on entry -/

variable (A : (d : Dev nD) → (b : Ref sig .tc) → Buf (Elt F) ((SparseCore.T d : Thread nD τ).loc b))

/-- Window `w`'s block of its array at grid point `t`. -/
def iblk (d : Dev nD) (w : Fin cfg1.W) (t : Fin cfg1.N) : ((cfg1.win w).xblock (cfg1.grid.coords t)).Idx → Elt F (cfg1.win w).elt :=
  ((cfg1.win w).blk t).view.read (Elt F) (A d (Pipeline.arrRef spec1 w))

/-- The block that grid point `t` writes. -/
def oblk (d : Dev nD) (t : Fin cfg1.N) : Vec F S2048x2 .f32 :=
  mlp (iblk A d 0 t) (iblk A d 1 t) (iblk A d 2 t) (iblk A d 3 t) (iblk A d 4 t) (iblk A d 5 t) (iblk A d 6 t) (iblk A d 7 t) (iblk A d 8 t) (iblk A d 9 t) (iblk A d 10 t) (iblk A d 11 t) (iblk A d 12 t) (iblk A d 13 t) (iblk A d 14 t)

/-- What rides beside the windows: nothing but the scoped buffers that the pipeline does not stage. -/
abbrev Φc (d : Dev nD) : sProp 𝕄 := Pipeline.scopedRest (Ix := HIx 1) (Name := ℕ) (U := UU) (Lvl := ℕ) (Val := Elt F) spec1 d

/-- The proof data of the region: each input's staging buffer keeps its block, the output's ends at `oblk`; the waits
    recorded so far are those of the one SparseCore call before it. -/
def dat (d : Dev nD) : Dat τ (Elt F) (HIx 1) ℕ UU ℕ cfg1 d where
  A w := A d (Pipeline.arrRef spec1 w)
  after w t := match w with
    | ⟨0, _⟩ => iblk A d 0 t
    | ⟨1, _⟩ => iblk A d 1 t
    | ⟨2, _⟩ => iblk A d 2 t
    | ⟨3, _⟩ => iblk A d 3 t
    | ⟨4, _⟩ => iblk A d 4 t
    | ⟨5, _⟩ => iblk A d 5 t
    | ⟨6, _⟩ => iblk A d 6 t
    | ⟨7, _⟩ => iblk A d 7 t
    | ⟨8, _⟩ => iblk A d 8 t
    | ⟨9, _⟩ => iblk A d 9 t
    | ⟨10, _⟩ => iblk A d 10 t
    | ⟨11, _⟩ => iblk A d 11 t
    | ⟨12, _⟩ => iblk A d 12 t
    | ⟨13, _⟩ => iblk A d 13 t
    | ⟨14, _⟩ => iblk A d 14 t
    | ⟨15, _⟩ => oblk A d t
    | ⟨_ + 16, h⟩ => absurd h (Nat.not_lt.2 (Nat.le_add_left _ _))
  Φ _ := Φc d
  q _ := fullShare
  owed _ := 0
  recorded _ := {p | (K (F := F)).lev (SparseCore.T d, p.1) p.2 ≤ 8}

theorem after_0 (d : Dev nD) (t : Fin cfg1.N) : (dat A d).after 0 t = iblk A d 0 t := by dsimp only [dat]
theorem after_1 (d : Dev nD) (t : Fin cfg1.N) : (dat A d).after 1 t = iblk A d 1 t := by dsimp only [dat]
theorem after_2 (d : Dev nD) (t : Fin cfg1.N) : (dat A d).after 2 t = iblk A d 2 t := by dsimp only [dat]
theorem after_3 (d : Dev nD) (t : Fin cfg1.N) : (dat A d).after 3 t = iblk A d 3 t := by dsimp only [dat]
theorem after_4 (d : Dev nD) (t : Fin cfg1.N) : (dat A d).after 4 t = iblk A d 4 t := by dsimp only [dat]
theorem after_5 (d : Dev nD) (t : Fin cfg1.N) : (dat A d).after 5 t = iblk A d 5 t := by dsimp only [dat]
theorem after_6 (d : Dev nD) (t : Fin cfg1.N) : (dat A d).after 6 t = iblk A d 6 t := by dsimp only [dat]
theorem after_7 (d : Dev nD) (t : Fin cfg1.N) : (dat A d).after 7 t = iblk A d 7 t := by dsimp only [dat]
theorem after_8 (d : Dev nD) (t : Fin cfg1.N) : (dat A d).after 8 t = iblk A d 8 t := by dsimp only [dat]
theorem after_9 (d : Dev nD) (t : Fin cfg1.N) : (dat A d).after 9 t = iblk A d 9 t := by dsimp only [dat]
theorem after_10 (d : Dev nD) (t : Fin cfg1.N) : (dat A d).after 10 t = iblk A d 10 t := by dsimp only [dat]
theorem after_11 (d : Dev nD) (t : Fin cfg1.N) : (dat A d).after 11 t = iblk A d 11 t := by dsimp only [dat]
theorem after_12 (d : Dev nD) (t : Fin cfg1.N) : (dat A d).after 12 t = iblk A d 12 t := by dsimp only [dat]
theorem after_13 (d : Dev nD) (t : Fin cfg1.N) : (dat A d).after 13 t = iblk A d 13 t := by dsimp only [dat]
theorem after_14 (d : Dev nD) (t : Fin cfg1.N) : (dat A d).after 14 t = iblk A d 14 t := by dsimp only [dat]
theorem after_15 (d : Dev nD) (t : Fin cfg1.N) : (dat A d).after 15 t = oblk A d t := by dsimp only [dat]

theorem before_0 (d : Dev nD) (t : Fin cfg1.N) (x) : (dat A d).before 0 t x = iblk A d 0 t :=
  ((dat A d).before_in_eq_fetched 0 rfl (fun _ => rfl) (fun _ _ _ => rfl) (fun t => after_0 A d t) t x).trans rfl
theorem before_1 (d : Dev nD) (t : Fin cfg1.N) (x) : (dat A d).before 1 t x = iblk A d 1 t :=
  ((dat A d).before_in_eq_fetched 1 rfl (fun _ => rfl) (fun _ _ _ => rfl) (fun t => after_1 A d t) t x).trans rfl
theorem before_2 (d : Dev nD) (t : Fin cfg1.N) (x) : (dat A d).before 2 t x = iblk A d 2 t :=
  ((dat A d).before_in_eq_fetched 2 rfl (fun _ => rfl) (fun _ _ _ => rfl) (fun t => after_2 A d t) t x).trans rfl
theorem before_3 (d : Dev nD) (t : Fin cfg1.N) (x) : (dat A d).before 3 t x = iblk A d 3 t :=
  ((dat A d).before_in_eq_fetched 3 rfl (fun _ => rfl) (fun _ _ _ => rfl) (fun t => after_3 A d t) t x).trans rfl
theorem before_4 (d : Dev nD) (t : Fin cfg1.N) (x) : (dat A d).before 4 t x = iblk A d 4 t :=
  ((dat A d).before_in_eq_fetched 4 rfl (fun _ => rfl) (fun _ _ _ => rfl) (fun t => after_4 A d t) t x).trans rfl
theorem before_5 (d : Dev nD) (t : Fin cfg1.N) (x) : (dat A d).before 5 t x = iblk A d 5 t :=
  ((dat A d).before_in_eq_fetched 5 rfl (fun _ => rfl) (fun _ _ _ => rfl) (fun t => after_5 A d t) t x).trans rfl
theorem before_6 (d : Dev nD) (t : Fin cfg1.N) (x) : (dat A d).before 6 t x = iblk A d 6 t :=
  ((dat A d).before_in_eq_fetched 6 rfl (fun _ => rfl) (fun _ _ _ => rfl) (fun t => after_6 A d t) t x).trans rfl
theorem before_7 (d : Dev nD) (t : Fin cfg1.N) (x) : (dat A d).before 7 t x = iblk A d 7 t :=
  ((dat A d).before_in_eq_fetched 7 rfl (fun _ => rfl) (fun _ _ _ => rfl) (fun t => after_7 A d t) t x).trans rfl
theorem before_8 (d : Dev nD) (t : Fin cfg1.N) (x) : (dat A d).before 8 t x = iblk A d 8 t :=
  ((dat A d).before_in_eq_fetched 8 rfl (fun _ => rfl) (fun _ _ _ => rfl) (fun t => after_8 A d t) t x).trans rfl
theorem before_9 (d : Dev nD) (t : Fin cfg1.N) (x) : (dat A d).before 9 t x = iblk A d 9 t :=
  ((dat A d).before_in_eq_fetched 9 rfl (fun _ => rfl) (fun _ _ _ => rfl) (fun t => after_9 A d t) t x).trans rfl
theorem before_10 (d : Dev nD) (t : Fin cfg1.N) (x) : (dat A d).before 10 t x = iblk A d 10 t :=
  ((dat A d).before_in_eq_fetched 10 rfl (fun _ => rfl) (fun _ _ _ => rfl) (fun t => after_10 A d t) t x).trans rfl
theorem before_11 (d : Dev nD) (t : Fin cfg1.N) (x) : (dat A d).before 11 t x = iblk A d 11 t :=
  ((dat A d).before_in_eq_fetched 11 rfl (fun _ => rfl) (fun _ _ _ => rfl) (fun t => after_11 A d t) t x).trans rfl
theorem before_12 (d : Dev nD) (t : Fin cfg1.N) (x) : (dat A d).before 12 t x = iblk A d 12 t :=
  ((dat A d).before_in_eq_fetched 12 rfl (fun _ => rfl) (fun _ _ _ => rfl) (fun t => after_12 A d t) t x).trans rfl
theorem before_13 (d : Dev nD) (t : Fin cfg1.N) (x) : (dat A d).before 13 t x = iblk A d 13 t :=
  ((dat A d).before_in_eq_fetched 13 rfl (fun _ => rfl) (fun _ _ _ => rfl) (fun t => after_13 A d t) t x).trans rfl
theorem before_14 (d : Dev nD) (t : Fin cfg1.N) (x) : (dat A d).before 14 t x = iblk A d 14 t :=
  ((dat A d).before_in_eq_fetched 14 rfl (fun _ => rfl) (fun _ _ _ => rfl) (fun t => after_14 A d t) t x).trans rfl

/-! ## The body obligation -/

def bodyPre (d : Dev nD) (t : Fin cfg1.N) : sProp 𝕄 :=
  iprop((dat A d).Φ t.castSucc ∗ (dat A d).owesAt none t.castSucc ∗ (∃ x, owns (SparseCore.T d) (st1_0 t) fullShare ((dat A d).before 0 t x)) ∗ (∃ x, owns (SparseCore.T d) (st1_1 t) fullShare ((dat A d).before 1 t x)) ∗ (∃ x, owns (SparseCore.T d) (st1_2 t) fullShare ((dat A d).before 2 t x)) ∗ (∃ x, owns (SparseCore.T d) (st1_3 t) fullShare ((dat A d).before 3 t x)) ∗ (∃ x, owns (SparseCore.T d) (st1_4 t) fullShare ((dat A d).before 4 t x)) ∗ (∃ x, owns (SparseCore.T d) (st1_5 t) fullShare ((dat A d).before 5 t x)) ∗ (∃ x, owns (SparseCore.T d) (st1_6 t) fullShare ((dat A d).before 6 t x)) ∗ (∃ x, owns (SparseCore.T d) (st1_7 t) fullShare ((dat A d).before 7 t x)) ∗ (∃ x, owns (SparseCore.T d) (st1_8 t) fullShare ((dat A d).before 8 t x)) ∗ (∃ x, owns (SparseCore.T d) (st1_9 t) fullShare ((dat A d).before 9 t x)) ∗ (∃ x, owns (SparseCore.T d) (st1_10 t) fullShare ((dat A d).before 10 t x)) ∗ (∃ x, owns (SparseCore.T d) (st1_11 t) fullShare ((dat A d).before 11 t x)) ∗ (∃ x, owns (SparseCore.T d) (st1_12 t) fullShare ((dat A d).before 12 t x)) ∗ (∃ x, owns (SparseCore.T d) (st1_13 t) fullShare ((dat A d).before 13 t x)) ∗ (∃ x, owns (SparseCore.T d) (st1_14 t) fullShare ((dat A d).before 14 t x)) ∗ (∃ x, owns (SparseCore.T d) (st1_15 t) fullShare ((dat A d).before 15 t x)))

def bodyPost (d : Dev nD) (t : Fin cfg1.N) : sProp 𝕄 :=
  iprop((dat A d).Φ t.succ ∗ (dat A d).owesAt none t.succ ∗ owns (SparseCore.T d) (st1_0 t) fullShare ((dat A d).after 0 t) ∗ owns (SparseCore.T d) (st1_1 t) fullShare ((dat A d).after 1 t) ∗ owns (SparseCore.T d) (st1_2 t) fullShare ((dat A d).after 2 t) ∗ owns (SparseCore.T d) (st1_3 t) fullShare ((dat A d).after 3 t) ∗ owns (SparseCore.T d) (st1_4 t) fullShare ((dat A d).after 4 t) ∗ owns (SparseCore.T d) (st1_5 t) fullShare ((dat A d).after 5 t) ∗ owns (SparseCore.T d) (st1_6 t) fullShare ((dat A d).after 6 t) ∗ owns (SparseCore.T d) (st1_7 t) fullShare ((dat A d).after 7 t) ∗ owns (SparseCore.T d) (st1_8 t) fullShare ((dat A d).after 8 t) ∗ owns (SparseCore.T d) (st1_9 t) fullShare ((dat A d).after 9 t) ∗ owns (SparseCore.T d) (st1_10 t) fullShare ((dat A d).after 10 t) ∗ owns (SparseCore.T d) (st1_11 t) fullShare ((dat A d).after 11 t) ∗ owns (SparseCore.T d) (st1_12 t) fullShare ((dat A d).after 12 t) ∗ owns (SparseCore.T d) (st1_13 t) fullShare ((dat A d).after 13 t) ∗ owns (SparseCore.T d) (st1_14 t) fullShare ((dat A d).after 14 t) ∗ owns (SparseCore.T d) (st1_15 t) fullShare ((dat A d).after 15 t))

theorem sound_body (d : Dev nD) (t : Fin cfg1.N) :
    bodyPre A d t ⊢ wp frame (wpE (defs₀ (F := F)) 𝒱₀ (SparseCore.T d) none) Set.univ (bodyAt1 t) (fun _ => bodyPost A d t) := by
  unfold bodyPre bodyPost bodyAt1
  simp only [before_0, before_1, before_2, before_3, before_4, before_5, before_6, before_7, before_8, before_9, before_10, before_11, before_12, before_13, before_14]
  rw [show (dat A d).Φ t.succ = (dat A d).Φ t.castSucc from rfl,
    show (dat A d).owesAt none t.succ = (dat A d).owesAt none t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel d _ Set.univ _ _ _ _ _ _ _ _ _ _ _ _ _ _ _ _ _ _ _ _ _ _ _ _ _ _ _ _ _ _ _ _ (iblk A d 0 t) (iblk A d 1 t) (iblk A d 2 t) (iblk A d 3 t) (iblk A d 4 t) (iblk A d 5 t) (iblk A d 6 t) (iblk A d 7 t) (iblk A d 8 t) (iblk A d 9 t) (iblk A d 10 t) (iblk A d 11 t) (iblk A d 12 t) (iblk A d 13 t) (iblk A d 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt1` spells it. -/
theorem defs₀_row (t : Fin cfg1.N) : defs₀ (F := F) .tc cfg1.body (cfg1.bodyArgs t (cfg1.slots t)) = bodyAt1 t := by
  rfl

theorem body_obligation (d : Dev nD) : BodyObligation (dat A d) (defs₀ (F := F)) 𝒱₀ none Set.univ := fun t => by
  rw [bigSep_W1, bigSep_W1, defs₀_row]
  exact triple_restated (sound_body A d t) rfl .rfl fun _ => .rfl

/-! ## The region -/

/-- The pipelines' rounds inside the resource algebra. -/
abbrev EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by infer_instance

abbrev adm : (p : Fin 1) → (pcfgs (F := F) p).Adm := fun p => (cfgs p).toPCfg_adm

/-- The family of proof data of the program's one pipeline. -/
def pdats : (p : Fin 1) → (d : Dev nD) → Dat τ (Elt F) (HIx 1) ℕ UU ℕ (Pipeline.pin (pcfgs (F := F)) adm p) d
  | ⟨0, _⟩ => fun d => dat A d

/-- The block array that the region writes: every grid point's block written back. -/
def mlpOut (d : Dev nD) : Buf (Elt F) ((SparseCore.T d : Thread nD τ).loc main_v21) := (dat A d).arrAt 15 cfg1.N

/-- Every window but the last is an input, on an array other than the result. -/
theorem arr_ne : ∀ w : Fin 16, w ≠ 15 → Pipeline.arrRef spec1 w ≠ main_v21 := by decide
theorem isOut_of_ne : ∀ w : Fin 16, w ≠ 15 → (spec1 w).isOut = false := by decide

variable (A' : (d : Dev nD) → (b : Ref sig .tc) → Buf (Elt F) ((SparseCore.T d : Thread nD τ).loc b))

/-- What the region's core owes about it: nothing, having waited at most for the one SparseCore call. -/
def owes8 (d : Dev nD) : sProp 𝕄 :=
  iprop(∃ W, ⌜(K (F := F)).WBelow (SparseCore.T d) W 8⌝ ∗ owes (SparseCore.T d) (0 : CellTallies nD τ sig (HIx 1)) W)

set_option backward.isDefEq.respectTransparency.types false in
/-- The region between two states of the TensorCore's arrays: entered at `A`, left at any `A'` that has the result at
    `mlpOut` and agrees with `A` elsewhere. -/
def reg (hout : ∀ d, A' d main_v21 = mlpOut A d) (hne : ∀ d (b : Ref sig .tc), b ≠ main_v21 → A' d b = A d b) :
    Pipeline.RegionSeg (pcfgs (F := F)) adm (pdats A) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody d := (body_obligation A d).loose
  hwaits := Pipeline.hwaits_of_owed_zero _ _ _ _ _ _ 0 fun _ _ => rfl
  pre d := iprop(unscopedBufs d (A d) ∗ owes8 d)
  post d := iprop(unscopedBufs d (A' d) ∗ owes8 d)
  X _ := BI.emp
  Y _ := BI.emp
  Z d := Pipeline.unscopedRest (Ix := HIx 1) (Name := ℕ) (U := UU) (Lvl := ℕ) spec1 d (A d)
  hentry d := by
    rw [Pipeline.ownSems0_none]
    have hsplit := Pipeline.arrays_of_unscopedBufs (p := 0) (pcfgs (F := F)) adm (pdats A) (launch1).win (launch1).arr_whole d
      ((pdats A 0 d).share_full fun _ => rfl) (A d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owes8 Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats A 0 d).Φ 0 = Φc d from rfl]
    iintro ⟨-, -, Hr⟩; iexact Hr
  hout d := by
    rw [Pipeline.ownSems0_none, show (pdats A 0 d).Φ (Fin.last _) = Φc d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) (launch1).win (launch1).arr_whole d
      (pdats A) ((pdats A 0 d).share_full fun _ => rfl) (A d) (A' d) ((pdats A 0 d).arrAt · cfg1.N)
      (fun w => by
        by_cases hw : w = (15 : Fin 16)
        · subst hw; exact (hout d).symm
        · exact ((pdats A 0 d).arrAt_in w (isOut_of_ne w hw) _).trans (hne d _ (arr_ne w hw)).symm)
      (fun b hb => hne d b fun h => hb (h ▸ Finset.mem_image.mpr ⟨15, Finset.mem_univ _, rfl⟩))
    iintro ⟨Ha, HO, -, Hrest⟩
    imodintro
    isplitl [Ha Hrest]
    · iapply hjoin; isplitl [Ha] <;> iassumption
    unfold owes8 Pipeline.Dat.owesAt Pipeline.owesWithin
    icases HO with ⟨%W, %hW, HO⟩; iexists W; isplitr; swap; · iexact HO
    ipureintro
    intro p hp
    rcases hW hp with h | h
    · exact h
    · obtain ⟨w, s, rfl⟩ := h
      exact Nat.zero_le _

end Cert.Proof.KernelIdeal

end
-- ==== Proof.KernelIdeal.Launch.lean ====
/-
  The launch of the gather: what the one SparseCore call takes and gives back, its division among the 32 tasks, and the
  ghost state the proof starts from.
-/
module

public import proofs.«01_k».proof.Proof.KernelIdeal.Mlp

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)
open Idealize.ShloMosaic.Tactic

variable {F : FTy → Type} [FloatOps F] [Named F]

local notation "𝕄" => MT nD τ sig (HIx 1) (Elt F) ℕ UU ℕ

variable (X : Ops F)

/-! ## What the call takes and gives back -/

theorem nCore_zero : (K (F := F)).nCore 0 = 2 := rfl
theorem nSub_zero : (K (F := F)).nSub 0 = 16 := rfl

/-- All the tasks of one SparseCore, the result at `f`. -/
abbrev corePts (d : Dev nD) (c : Fin 2) (f : Buf (Elt F) (oLoc d)) : sProp 𝕄 := bigSep Finset.univ fun i : Fin 16 => goPts X d c i f

/-- Each SparseCore takes its tasks' shares of the list and the table and their chunks of the result, and brings them back
    with the chunks at what the gather leaves. -/
def P : (K (F := F)).Pay (nD := nD) (Val := Elt F) (Name := ℕ) (U := UU) where
  st := fun q d c => match q with | 0 => corePts X d (Fin.cast nCore_zero c) (X.x8 d)
  dn := fun q d c => match q with | 0 => corePts X d (Fin.cast nCore_zero c) (X.y d)
  go := fun q d c i => match q with | 0 => goPts X d (Fin.cast nCore_zero c) (Fin.cast nSub_zero i) (X.x8 d)
  td := fun q d c i => match q with | 0 => goPts X d (Fin.cast nCore_zero c) (Fin.cast nSub_zero i) (X.y d)
  x := fun _ _ => iprop(emp)

instance P_storable : (P (F := F) X).IsStorable where
  st q d c := match q with
    | 0 => (inferInstance : BI.Storable (upEmb : UEmb _ 𝕄) (corePts X d (Fin.cast nCore_zero c) (X.x8 d)))
  dn q d c := match q with
    | 0 => (inferInstance : BI.Storable (upEmb : UEmb _ 𝕄) (corePts X d (Fin.cast nCore_zero c) (X.y d)))
  go q d c i := match q with
    | 0 => (inferInstance : BI.Storable (upEmb : UEmb _ 𝕄) (goPts X d (Fin.cast nCore_zero c) (Fin.cast nSub_zero i) (X.x8 d)))
  td q d c i := match q with
    | 0 => (inferInstance : BI.Storable (upEmb : UEmb _ 𝕄) (goPts X d (Fin.cast nCore_zero c) (Fin.cast nSub_zero i) (X.y d)))

/-! ## One task -/

/-- A task's place in the grid. -/
def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          (Memref.whole main_v6_scv : Memref sig .scVector .hbm S425984 .i32) (Memref.isWhole_whole _) (Memref.whole main_v7_scv : Memref sig .scVector .hbm S2600000x16 .f32) (Memref.isWhole_whole _) (Memref.whole main_v8_scv : Memref sig .scVector .hbm S425984x16 .f32) (Memref.isWhole_whole _)
          (Memref.whole cc0_scratch0 : Memref sig .scVector .vmem S1664 .i32) (Memref.isWhole_whole _) (Memref.whole cc0_scratch1 : Memref sig .scVector .vmem S1664 .i32) (Memref.isWhole_whole _) (Memref.whole cc0_scratch2 : Memref sig .scVector .vmem S1664x16 .f32) (Memref.isWhole_whole _) (Memref.whole cc0_scratch3 : Memref sig .scVector .vmem S1664x16 .f32) (Memref.isWhole_whole _)
          cc0_scratch4 cc0_scratch5 cc0_scratch6 cc0_scratch7
          cc0_scoped0 cc0_scoped1 cc0_scoped2 cc0_scoped3 cc0_scoped4 cc0_scoped5 cc0_scoped6 cc0_scoped7) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hX : X.Inb) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) facts hX O W hO).trans (wp_mono frame _ _ fun _ => obl_post)

theorem vecSplit : (K (F := F)).VecSplit' (P X) 0 := by
  intro d c
  show corePts X d (Fin.cast nCore_zero c) (X.x8 d) ⊢ |={Set.univ}=> iprop(
      (bigSep Finset.univ fun i : Fin 16 => goPts X d (Fin.cast nCore_zero c) (Fin.cast nSub_zero i) (X.x8 d))
      ∗ ((bigSep Finset.univ fun i : Fin 16 => goPts X d (Fin.cast nCore_zero c) (Fin.cast nSub_zero i) (X.y d))
          -∗ corePts X d (Fin.cast nCore_zero c) (X.y d)))
  iintro H; imodintro
  isplitl [H]; · iexact H
  iintro H; iexact H

/-! ## The whole arrays are the tasks' parts -/

omit [FloatOps F] [Named F] in
theorem chunkSet_eq (i : Fin 256) : chunkSet i = (chunk i).set := by
  show ((View.whole (main_v8_scv : Ref sig .scVector)).slice (chunk i)).set = _
  rw [View.set_slice]; exact Finset.map_refl
omit [FloatOps F] [Named F] in
theorem chunks_disjoint : ∀ i ∈ (Finset.univ : Finset (Fin 256)), ∀ j ∈ (Finset.univ : Finset (Fin 256)), i ≠ j → Disjoint (chunkSet i) (chunkSet j) :=
  fun i _ j _ h => by rw [chunkSet_eq, chunkSet_eq]; exact Rect.part_disjoint odiv h
omit [FloatOps F] [Named F] in
theorem chunks_cover : (Finset.univ : Finset (Fin 256)).biUnion chunkSet = Finset.univ :=
  (Finset.biUnion_congr rfl fun i _ => chunkSet_eq i).trans (Rect.biUnion_part odiv)

/-- The tasks, counted. -/
def taskEquiv : Fin 2 × Fin 16 ≃ Fin 32 where
  toFun p := tix p.1 p.2
  invFun t := (⟨t.val % 2, by omega⟩, ⟨t.val / 2, by omega⟩)
  left_inv p := by
    obtain ⟨c, s⟩ := p
    refine Prod.ext (Fin.ext ?_) (Fin.ext ?_) <;> simp only [tix] <;> omega
  right_inv t := Fin.ext (by simp only [tix]; omega)

/-- The chunks, counted. -/
def chunkEquiv : Fin 2 × Fin 16 × Fin 8 ≃ Fin 256 where
  toFun p := cix p.1 p.2.1 p.2.2
  invFun t := (⟨t.val / 8 % 2, by omega⟩, ⟨t.val / 16, by omega⟩, ⟨t.val % 8, by omega⟩)
  left_inv p := by
    obtain ⟨c, s, k⟩ := p
    refine Prod.ext (Fin.ext ?_) (Prod.ext (Fin.ext ?_) (Fin.ext ?_)) <;> simp only [cix] <;> omega
  right_inv t := Fin.ext (by simp only [cix]; omega)

omit [FloatOps F] [Named F] in
theorem shares_eq {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_piecesOf (Val := Elt F) Finset.univ f (o := 32) (by decide) fullShare,
    bigSep_univ_equiv taskEquiv, bigSep_univ_prod]
  rfl

omit [FloatOps F] [Named F] in
theorem chunks_eq (d : Dev nD) (f : Buf (Elt F) (oLoc d)) :
    (oLoc d ↦{fullShare} f : sProp 𝕄)
      = bigSep Finset.univ fun c : Fin 2 => bigSep Finset.univ fun s : Fin 16 => bigSep Finset.univ fun k : Fin 8 => oLoc d ↦[chunkSet (cix c s k)]{fullShare} f := by
  have h : (oLoc d ↦{fullShare} f : sProp 𝕄) = bigSep Finset.univ fun i : Fin 256 => oLoc d ↦[chunkSet i]{fullShare} f := by
    rw [← pointsTo_biUnion Finset.univ (ℓ := oLoc d) chunkSet chunks_disjoint, chunks_cover]
  rw [h, bigSep_univ_equiv chunkEquiv, bigSep_univ_prod]
  refine bigSep_congr fun c _ => ?_
  rw [bigSep_univ_prod]
  rfl

/-- The three arrays, whole, are what the two SparseCores take together. -/
theorem whole_eq (d : Dev nD) (f : Buf (Elt F) (oLoc d)) :
    iprop((iLoc d ↦{fullShare} X.x6 d) ∗ (xLoc d ↦{fullShare} X.x7 d) ∗ oLoc d ↦{fullShare} f)
      = bigSep Finset.univ fun c : Fin 2 => (corePts X d c f : sProp 𝕄) := by
  rw [shares_eq (X.x6 d), shares_eq (X.x7 d), chunks_eq, ← bigSep_sep', ← bigSep_sep']
  refine bigSep_congr fun c _ => ?_
  rw [← bigSep_sep', ← bigSep_sep']

theorem st0_eq (d : Dev nD) : (bigSep Finset.univ fun c : Fin ((K (F := F)).nCore 0) => (P X).st 0 d c)
    = iprop((iLoc d ↦{fullShare} X.x6 d) ∗ (xLoc d ↦{fullShare} X.x7 d) ∗ oLoc d ↦{fullShare} X.x8 d) :=
  (whole_eq X d (X.x8 d)).symm
theorem dn0_eq (d : Dev nD) : (bigSep Finset.univ fun c : Fin ((K (F := F)).nCore 0) => (P X).dn 0 d c)
    = iprop((iLoc d ↦{fullShare} X.x6 d) ∗ (xLoc d ↦{fullShare} X.x7 d) ∗ oLoc d ↦{fullShare} X.y d) :=
  (whole_eq X d (X.y d)).symm

/-! ## The launch element of the certificate's ghost state -/

theorem pinj : Function.Injective (Pipeline.cellOf (nD := nD) (τ := τ) (Pipeline.pin (pcfgs (F := F)) adm)) := cellOf_inj

/-- What the region's proof starts from on each device. -/
abbrev G (d : Dev nD) : sProp 𝕄 :=
  iprop(cellsGhost (Pipeline.pin (pcfgs (F := F)) adm) EP 0 d ∗ toksInit (Pipeline.pin (pcfgs (F := F)) adm) EP 0 d)

def u₀ : UU :=
  (initOf (K (F := F)).hsCells (K (F := F)).hsToks,
    (initOf (Pipeline.cells (Pipeline.pin (pcfgs (F := F)) adm) pinj) (Pipeline.launchToks (Pipeline.pin (pcfgs (F := F)) adm) pinj), 1))

omit [FloatOps F] [Named F] in
theorem bigSep_emp' {I : Type} (s : Finset I) : (bigSep s fun _ => iprop(emp)) = (iprop(emp) : sProp 𝕄) := bigSep_emp_const s

theorem ghost_eq : iprop((bigSep Finset.univ fun c : Dev nD => bigSep Finset.univ fun p => cellsGhost (Pipeline.pin (pcfgs (F := F)) adm) EP p c)
      ∗ (bigSep Finset.univ fun c : Dev nD => bigSep Finset.univ fun p => (toksInit (Pipeline.pin (pcfgs (F := F)) adm) EP p c : sProp 𝕄)))
    = bigSep Finset.univ fun d : Dev nD => (G d : sProp 𝕄) := by
  rw [bigSep_univ_of_subsingleton (0 : Dev nD), bigSep_univ_of_subsingleton (0 : Dev nD), bigSep_univ_of_subsingleton (0 : Dev nD),
    bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X).x q thr) := by
  unfold u₀
  iintro Hu
  ihave H := (ownU_pair (initOf (K (F := F)).hsCells (K (F := F)).hsToks)
    ((initOf (Pipeline.cells (Pipeline.pin (pcfgs (F := F)) adm) pinj) (Pipeline.launchToks (Pipeline.pin (pcfgs (F := F)) adm) pinj), (1 : Counters)) : UP × Counters)) $$ Hu
  icases H with ⟨HH, HR⟩
  ihave HP := (show BI.own ((embR : Emb (UP × Counters) 𝕄) (initOf (Pipeline.cells (Pipeline.pin (pcfgs (F := F)) adm) pinj) (Pipeline.launchToks (Pipeline.pin (pcfgs (F := F)) adm) pinj), (1 : Counters)))
    ⊢ (BI.own (EP (initOf (Pipeline.cells (Pipeline.pin (pcfgs (F := F)) adm) pinj) (Pipeline.launchToks (Pipeline.pin (pcfgs (F := F)) adm) pinj))) : sProp 𝕄) from Entails.of_eq rfl) $$ HR
  imod (Pipeline.fund_ghost (Pipeline.pin (pcfgs (F := F)) adm) EP pinj) $$ HP with ⟨Hg, Ht⟩
  imodintro
  isplitl [HH]; · iexact HH
  isplitl [Hg Ht]
  · iapply (Entails.of_eq ghost_eq)
    isplitl [Hg]; · iexact Hg
    iexact Ht
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emp']
  iempintro

end Cert.Proof.KernelIdeal

end
-- ==== Proof.KernelIdeal.Main.lean ====
/-
  The whole program on the machine: the host operations before the gather, the gather, the host operations after it, the
  perceptron's region. Every run ends with the result at what the region wrote and the arguments as they were.
-/
module

public import proofs.«01_k».proof.Proof.KernelIdeal.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the arrays hold, stage by stage -/

/-- The host operations before the gather. -/
def ops1 : List (HloOp τ sig (Elt F)) :=
  [StableHlo.nullary main_v0 (iotaInDim S26 32 0),
   StableHlo.nullary main_c (constantI S_ 32 100000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_v2 main_v3 (broadcastInDim S1x26 ![1] bcast_S26_S1x26_1 : (⟨S26, .i32⟩ : BufTy).Contents (Elt F) → (⟨S1x26, .i32⟩ : BufTy).Contents (Elt F)),
   StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
   StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F)),
   StableHlo.reshape main_v5 main_v6 (rfl : (.i32 : EltTy) = .i32) shapeCasts_S16384x26_S425984,
   StableHlo.reshape main_arg2 main_v7 (rfl : (.f32 : EltTy) = .f32) shapeCasts_S26x100000x16_S2600000x16]

/-- The host operations after it. -/
def ops2 : List (HloOp τ sig (Elt F)) :=
  [StableHlo.reshape main_v8 main_v9 (rfl : (.f32 : EltTy) = .f32) shapeCasts_S425984x16_S16384x416,
   StableHlo.unary main_arg5 main_v10 ((extractStridedSlice S416x512 ![0, 0] · slices_S429x512_S416x512_0_0) : (⟨S429x512, .f32⟩ : BufTy).Contents (Elt F) → (⟨S416x512, .f32⟩ : BufTy).Contents (Elt F)),
   StableHlo.unary main_arg5 main_v11 ((extractStridedSlice S13x512 ![416, 0] · slices_S429x512_S13x512_416_0) : (⟨S429x512, .f32⟩ : BufTy).Contents (Elt F) → (⟨S13x512, .f32⟩ : BufTy).Contents (Elt F)),
   StableHlo.unary main_arg3 main_v12 (broadcastInDim S1x13 ![1] bcast_S13_S1x13_1 : (⟨S13, .f32⟩ : BufTy).Contents (Elt F) → (⟨S1x13, .f32⟩ : BufTy).Contents (Elt F)),
   StableHlo.unary main_arg4 main_v13 (broadcastInDim S1x13 ![1] bcast_S13_S1x13_1 : (⟨S13, .f32⟩ : BufTy).Contents (Elt F) → (⟨S1x13, .f32⟩ : BufTy).Contents (Elt F)),
   StableHlo.unary main_arg6 main_v14 (broadcastInDim S1x512 ![1] bcast_S512_S1x512_1 : (⟨S512, .f32⟩ : BufTy).Contents (Elt F) → (⟨S1x512, .f32⟩ : BufTy).Contents (Elt F)),
   StableHlo.unary main_arg7 main_v15 (broadcastInDim S1x512 ![1] bcast_S512_S1x512_1 : (⟨S512, .f32⟩ : BufTy).Contents (Elt F) → (⟨S1x512, .f32⟩ : BufTy).Contents (Elt F)),
   StableHlo.unary main_arg8 main_v16 (broadcastInDim S1x512 ![1] bcast_S512_S1x512_1 : (⟨S512, .f32⟩ : BufTy).Contents (Elt F) → (⟨S1x512, .f32⟩ : BufTy).Contents (Elt F)),
   StableHlo.unary main_arg10 main_v17 (broadcastInDim S1x256 ![1] bcast_S256_S1x256_1 : (⟨S256, .f32⟩ : BufTy).Contents (Elt F) → (⟨S1x256, .f32⟩ : BufTy).Contents (Elt F)),
   StableHlo.unary main_arg11 main_v18 (broadcastInDim S1x256 ![1] bcast_S256_S1x256_1 : (⟨S256, .f32⟩ : BufTy).Contents (Elt F) → (⟨S1x256, .f32⟩ : BufTy).Contents (Elt F)),
   StableHlo.unary main_arg12 main_v19 (broadcastInDim S1x256 ![1] bcast_S256_S1x256_1 : (⟨S256, .f32⟩ : BufTy).Contents (Elt F) → (⟨S1x256, .f32⟩ : BufTy).Contents (Elt F)),
   StableHlo.unary main_arg14 main_v20 (broadcastInDim S1x2 ![1] bcast_S2_S1x2_1 : (⟨S2, .f32⟩ : BufTy).Contents (Elt F) → (⟨S1x2, .f32⟩ : BufTy).Contents (Elt F))]

theorem main_eq (d : Dev nD) : main (F := F) d = (StableHlo.seq ops1 >>= fun _ => (K (F := F)).run d 0 >>= fun _ =>
    StableHlo.seq ops2 >>= fun _ => SparseCore.liftProg (.op (.customCall (Pipeline.entry 0) ()) .ret)) := by
  rfl

abbrev r6 : DevRef τ sig := Proc.devRef .tc main_v6
abbrev r7 : DevRef τ sig := Proc.devRef .tc main_v7
abbrev r8 : DevRef τ sig := Proc.devRef .tc main_v8
abbrev r21 : DevRef τ sig := Proc.devRef .tc main_v21

/-- At the start. -/
def V0 (d : Dev nD) : Valuation τ sig (Elt F) := fun b => m (d, b)
/-- When the gather is called. -/
def V1 (d : Dev nD) : Valuation τ sig (Elt F) := StableHlo.after ops1 (V0 m d)
/-- The call's operands and result, then. -/
def X : Ops F where
  x6 d := V1 m d r6
  x7 d := V1 m d r7
  x8 d := V1 m d r8
/-- After the gather. -/
def V2 (d : Dev nD) : Valuation τ sig (Elt F) := Function.update (V1 m d) r8 ((X m).y d)
/-- When the region is entered. -/
def V3 (d : Dev nD) : Valuation τ sig (Elt F) := StableHlo.after ops2 (V2 m d)
/-- The TensorCore's arrays, then. -/
def A (d : Dev nD) (b : Ref sig .tc) : Buf (Elt F) ((SparseCore.T d : Thread nD τ).loc b) := V3 m d (Proc.devRef .tc b)
/-- At the end. -/
def V4 (d : Dev nD) : Valuation τ sig (Elt F) := Function.update (V3 m d) r21 (mlpOut (A m) d)

theorem V2_off (d : Dev nD) (b : DevRef τ sig) (h : b ≠ r8) : V2 m d b = V1 m d b := Function.update_of_ne h _ _
theorem V2_at (d : Dev nD) : V2 m d r8 = (X m).y d := Function.update_self _ _ _
theorem V4_off (d : Dev nD) (b : DevRef τ sig) (h : b ≠ r21) : V4 m d b = V3 m d b := Function.update_of_ne h _ _
theorem V4_at (d : Dev nD) : V4 m d r21 = mlpOut (A m) d := Function.update_self _ _ _

/-- What the two lines write. -/
abbrev W1 : List (Ref sig .tc) := [main_v0, main_c, main_v1, main_v2, main_v3, main_v4, main_v5, main_v6, main_v7]
abbrev W2 : List (Ref sig .tc) := [main_v9, main_v10, main_v11, main_v12, main_v13, main_v14, main_v15, main_v16, main_v17, main_v18, main_v19, main_v20]

theorem V1_keep (d : Dev nD) (b : Ref sig .tc) (h : b ∉ W1) : V1 m d (Proc.devRef .tc b) = V0 m d (Proc.devRef .tc b) :=
  StableHlo.after_of_writes_sub (W := W1) ops1 _ (StableHlo.forall_writes_sub_of_map rfl) h
theorem V3_keep (d : Dev nD) (b : Ref sig .tc) (h : b ∉ W2) : V3 m d (Proc.devRef .tc b) = V2 m d (Proc.devRef .tc b) :=
  StableHlo.after_of_writes_sub (W := W2) ops2 _ (StableHlo.forall_writes_sub_of_map rfl) h

/-- An array that nothing writes before the region holds there what it held at the start. -/
theorem V3_arg (d : Dev nD) (b : Ref sig .tc) (h : b ∉ main_v8 :: W1 ++ W2) :
    V3 m d (Proc.devRef .tc b) = m ((SparseCore.T d : Thread nD τ).loc b) := by
  simp only [List.mem_append, List.mem_cons, not_or] at h
  rw [V3_keep m d b (by simpa using h.2), V2_off m d _ (StableHlo.devRef_ne_of_ne h.1.1), V1_keep m d b (by simpa using h.1.2)]
  rfl

/-- An array that nothing writes ends at what it held at the start. -/
theorem V4_arg (d : Dev nD) (b : Ref sig .tc) (h : b ∉ main_v21 :: main_v8 :: W1 ++ W2) :
    V4 m d (Proc.devRef .tc b) = m ((SparseCore.T d : Thread nD τ).loc b) := by
  rw [V4_off m d _ (StableHlo.devRef_ne_of_ne fun e => h (by rw [e]; exact List.mem_cons_self)), V3_arg m d b fun e => h (List.mem_cons_of_mem _ e)]

/-! ## The arrays the TensorCore holds -/

abbrev ucRefs : Finset (DevRef τ sig) := (StableHlo.tcRefs τ sig).filter fun b => ¬ b.isScoped

omit [FloatOps F] [Named F] in
/-- The TensorCore's arrays at a valuation are that set held at it. -/
theorem uc_held (d : Dev nD) (W : Valuation τ sig (Elt F)) :
    (unscopedBufs d (fun b => W (Proc.devRef .tc b)) : sProp 𝕄) = StableHlo.held (SparseCore.T d : Thread nD τ) ucRefs W := by
  unfold unscopedBufs StableHlo.held ucRefs StableHlo.tcRefs
  rw [Finset.filter_map, bigSep_map]
  rfl

theorem mem_uc {b : Ref sig .tc} (h : b.isScoped = false) : (Proc.devRef .tc b : DevRef τ sig) ∈ ucRefs :=
  Finset.mem_filter.mpr ⟨StableHlo.devRef_mem_tcRefs b, by simpa using h⟩

theorem sub_uc {s : Finset (DevRef τ sig)} (h : s ⊆ StableHlo.tcRefs τ sig) (h' : ∀ b ∈ s, b.isScoped = false) : s ⊆ ucRefs :=
  fun b hb => Finset.mem_filter.mpr ⟨h hb, by simp [h' b hb]⟩

theorem ops1_sub : ∀ op ∈ (ops1 : List (HloOp τ sig (Elt F))), op.bufs ⊆ ucRefs := by
  intro op hop b hb
  refine Finset.mem_filter.mpr ⟨?_, by simp [op.no_scoped b hb]⟩
  revert b
  simp only [ops1, List.mem_cons, List.not_mem_nil, _root_.or_false] at hop
  rcases hop with rfl|rfl|rfl|rfl|rfl|rfl|rfl|rfl|rfl
  all_goals first | exact StableHlo.nullary_bufs_sub .. | exact StableHlo.unary_bufs_sub .. | exact StableHlo.binary_bufs_sub .. | exact StableHlo.reshape_bufs_sub ..
theorem ops2_sub : ∀ op ∈ (ops2 : List (HloOp τ sig (Elt F))), op.bufs ⊆ ucRefs := by
  intro op hop b hb
  refine Finset.mem_filter.mpr ⟨?_, by simp [op.no_scoped b hb]⟩
  revert b
  simp only [ops2, List.mem_cons, List.not_mem_nil, _root_.or_false] at hop
  rcases hop with rfl|rfl|rfl|rfl|rfl|rfl|rfl|rfl|rfl|rfl|rfl|rfl
  all_goals first | exact StableHlo.nullary_bufs_sub .. | exact StableHlo.unary_bufs_sub .. | exact StableHlo.binary_bufs_sub .. | exact StableHlo.reshape_bufs_sub ..
theorem ops1_fresh : ∀ op ∈ (ops1 : List (HloOp τ sig (Elt F))), op.fresh = ∅ :=
  List.forall_iff_forall_mem.mp (StableHlo.forall_fresh_of_map rfl)
theorem ops2_fresh : ∀ op ∈ (ops2 : List (HloOp τ sig (Elt F))), op.fresh = ∅ :=
  List.forall_iff_forall_mem.mp (StableHlo.forall_fresh_of_map rfl)

/-- The gather's three arrays. -/
abbrev three : Finset (DevRef τ sig) := {r6, r7, r8}
theorem three_sub : three ⊆ ucRefs := by
  intro b hb
  simp only [three, Finset.mem_insert, Finset.mem_singleton] at hb
  rcases hb with rfl | rfl | rfl <;> exact mem_uc rfl
theorem r67 : r6 ≠ r7 := StableHlo.devRef_ne_of_ne (by decide)
theorem r68 : r6 ≠ r8 := StableHlo.devRef_ne_of_ne (by decide)
theorem r78 : r7 ≠ r8 := StableHlo.devRef_ne_of_ne (by decide)

omit [FloatOps F] [Named F] in
theorem held_three (d : Dev nD) (W : Valuation τ sig (Elt F)) :
    (StableHlo.held (SparseCore.T d : Thread nD τ) three W : sProp 𝕄)
      = iprop((iLoc d ↦{fullShare} W r6) ∗ (xLoc d ↦{fullShare} W r7) ∗ oLoc d ↦{fullShare} W r8) := by
  unfold StableHlo.held three
  rw [SparseCore.bigSep_insert' (by simp only [Finset.mem_insert, Finset.mem_singleton, not_or]; exact ⟨r67, r68⟩),
    SparseCore.bigSep_insert' (by simp only [Finset.mem_singleton]; exact r78), bigSep_singleton]

/-- Before the call: the arrays are what the call takes and the rest. -/
theorem held_V1 (d : Dev nD) : (StableHlo.held (SparseCore.T d : Thread nD τ) ucRefs (V1 m d) : sProp 𝕄)
    = iprop((bigSep Finset.univ fun c : Fin ((K (F := F)).nCore 0) => (P (X m)).st 0 d c) ∗ StableHlo.held (SparseCore.T d : Thread nD τ) (ucRefs \ three) (V1 m d)) := by
  rw [StableHlo.held_sub_split _ three_sub, held_three, st0_eq]
  rfl
/-- After it: what the call gives back and the rest are the arrays. -/
theorem held_V2 (d : Dev nD) : (StableHlo.held (SparseCore.T d : Thread nD τ) ucRefs (V2 m d) : sProp 𝕄)
    = iprop((bigSep Finset.univ fun c : Fin ((K (F := F)).nCore 0) => (P (X m)).dn 0 d c) ∗ StableHlo.held (SparseCore.T d : Thread nD τ) (ucRefs \ three) (V1 m d)) := by
  rw [StableHlo.held_sub_split _ three_sub, held_three, dn0_eq, V2_off m d r6 r68, V2_off m d r7 r78, V2_at,
    StableHlo.held_congr (V := V2 m d) (V' := V1 m d) _ fun b hb => V2_off m d b fun e => (Finset.mem_sdiff.mp hb).2 (by rw [e]; simp [three])]
  rfl

/-! ## @main on the TensorCore -/

abbrev FIN (d : Dev nD) : sProp 𝕄 := StableHlo.held (SparseCore.T d : Thread nD τ) ucRefs (V4 m d)

theorem A'_out (d : Dev nD) : (fun b => V4 m d (Proc.devRef .tc b) : (b : Ref sig .tc) → Buf (Elt F) ((SparseCore.T d : Thread nD τ).loc b)) main_v21 = mlpOut (A m) d := V4_at m d
theorem A'_ne (d : Dev nD) (b : Ref sig .tc) (h : b ≠ main_v21) : V4 m d (Proc.devRef .tc b) = A m d b :=
  V4_off m d _ (StableHlo.devRef_ne_of_ne h)

/-- The region, between the arrays before it and after. -/
abbrev regm := reg (A m) (fun d b => V4 m d (Proc.devRef .tc b)) (A'_out m) (A'_ne m)

omit [FloatOps F] [Named F] in
theorem ret_intro {Λ : Labels} {Df : Defs nD τ sig (Elt F) Λ} {V' : Variants} {thr : Thread nD τ} {bd : Option V'.V} {Φ : PUnit → sProp 𝕄} :
    Φ ⟨⟩ ⊢ wp frame (wpE Df V' thr bd) Set.univ (.ret ⟨⟩) Φ := by
  rw [wp_ret]; iintro H; imodintro; iexact H

/-- After its one call the core owes nothing. -/
theorem Otc_one (d : Dev nD) : (K (F := F)).Otc d 1 = 0 := by
  unfold SparseCore.Cfg.Otc
  exact Finset.sum_eq_zero fun q _ => if_neg (Nat.not_le.mpr q.isLt)

theorem owes8_eq (d : Dev nD) :
    (iprop(∃ W, ⌜(K (F := F)).WBelow (SparseCore.T d) W (8 * SparseCore.Cfg.Blocks.fst 1 1 1)⌝ ∗ owes (SparseCore.T d) ((K (F := F)).Otc d 1) W) : sProp 𝕄) = owes8 (F := F) d := by
  rw [Otc_one]; rfl

/-- What @main owes the rest of the machine and holds at its end. -/
abbrev QM (d : Dev nD) : PUnit → sProp 𝕄 :=
  fun _ => iprop((K (F := F)).tcSt EH d 1 ∗ FIN m d ∗ boundary (SparseCore.T d) ∗ (K (F := F)).tcSems0 d)

set_option backward.isDefEq.respectTransparency.types false in
/-- The region, from the arrays at `V3`. -/
theorem step3 [∀ e, Nonempty (Elt F e)] (κ : GSem nD τ sig → ℕ) (d : Dev nD) :
    iprop((K (F := F)).ctx EH (P (X m)) κ ∗ (K (F := F)).tcSt EH d 1 ∗ boundary (SparseCore.T d) ∗ StableHlo.held (SparseCore.T d : Thread nD τ) ucRefs (V3 m d)
        ∗ (K (F := F)).tcSems0 d ∗ G d)
      ⊢ wp frame (wpE ((K (F := F)).defs (D (F := F))) 𝒱 (SparseCore.T d) none) Set.univ
          (SparseCore.liftProg (.op (.customCall (Pipeline.entry 0) ()) .ret)) (QM m d) := by
  rw [← uc_held d (V3 m d)]
  unfold QM SparseCore.Cfg.tcSt
  iintro ⟨#Hctx, ⟨HO, Hst⟩, Hb, Hh, Hts, Hg, Htk⟩
  iapply ((K (F := F)).wp_liftProg (D (F := F)) 𝒱 (SparseCore.T d) Set.univ none _ _)
  iapply (Pipeline.RegionSeg.wp (pcfgs (F := F)) adm (pdats (A m)) none pinj EP defs₀ 𝒱₀ (K (F := F)).L (K (F := F)).lev (regm m) d none (fun _ h => nomatch h) _ _)
  isplitl [Hst Hts]
  · iintro ⟨Hb, Hpost⟩
    iapply ret_intro
    ihave Hpost' := (show (regm m).post d ⊢ iprop(StableHlo.held (SparseCore.T d : Thread nD τ) ucRefs (V4 m d) ∗ owes8 d) from
      sep_mono_left (Entails.of_eq (uc_held d (V4 m d)))) $$ Hpost
    icases Hpost' with ⟨Hh, HO⟩
    isplitl [Hst HO]
    · isplitl [HO]
      · iapply (Entails.of_eq (owes8_eq d).symm); iexact HO
      iexact Hst
    isplitl [Hh]; · iexact Hh
    isplitl [Hb] <;> iassumption
  isplitl [Hb]; · iexact Hb
  isplitl [Hh HO]
  · iapply (show iprop(unscopedBufs d (A m d) ∗ owes8 d) ⊢ (regm m).pre d from .rfl)
    isplitl [Hh]; · iexact Hh
    iapply (Entails.of_eq (owes8_eq d)); iexact HO
  isplitr; · iapply (SparseCore.Cfg.ctx_levAts κ); iexact Hctx
  isplitl [Hg]; · iexact Hg
  iexact Htk

set_option backward.isDefEq.respectTransparency.types false in
/-- The gather and what follows it, from the arrays at `V1`. -/
theorem step2 [∀ e, Nonempty (Elt F e)] (κ : GSem nD τ sig → ℕ) (d : Dev nD) :
    iprop((K (F := F)).ctx EH (P (X m)) κ ∗ (K (F := F)).tcSt EH d 0 ∗ boundary (SparseCore.T d) ∗ StableHlo.held (SparseCore.T d : Thread nD τ) ucRefs (V1 m d)
        ∗ (K (F := F)).tcSems0 d ∗ G d)
      ⊢ wp frame (wpE ((K (F := F)).defs (D (F := F))) 𝒱 (SparseCore.T d) none) Set.univ
          ((K (F := F)).run d 0 >>= fun _ => StableHlo.seq ops2 >>= fun _ => SparseCore.liftProg (.op (.customCall (Pipeline.entry 0) ()) .ret)) (QM m d) := by
  rw [held_V1, wp_bind]
  iintro ⟨#Hctx, Hst, Hb, ⟨Hin, Hh⟩, Hts, Hg⟩
  iapply ((K (F := F)).wp_run (D (F := F)) 𝒱 (EH := EH) (P := P (X m)) κ d 0) $$ [Hst Hin Hh Hb Hts Hg]
  isplitr; · iexact Hctx
  isplitl [Hst]; · iexact Hst
  isplitl [Hin]; · iexact Hin
  iintro ⟨Hst, Hdn⟩
  iapply (StableHlo.wp_seq 𝒱 none Set.univ d ucRefs _ ops2 ops2_sub ops2_fresh (V2 m d)) $$ [Hb Hh Hdn]
  · isplitl [Hb]; · iexact Hb
    iapply (Entails.of_eq (held_V2 m d).symm)
    isplitl [Hdn] <;> iassumption
  iintro ⟨Hb, Hh⟩
  iapply (step3 m κ d)
  isplitr; · iexact Hctx
  isplitl [Hst]; · iexact Hst
  isplitl [Hb]; · iexact Hb
  isplitl [Hh]; · iexact Hh
  isplitl [Hts] <;> iassumption

set_option backward.isDefEq.respectTransparency.types false in
/-- @main on device `d`'s TensorCore. -/
theorem hmain [∀ e, Nonempty (Elt F e)] (κ : GSem nD τ sig → ℕ) (d : Dev nD) :
    iprop((K (F := F)).ctx EH (P (X m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b => m ((SparseCore.T d : Thread nD τ).loc b)) = (fun b => V0 m d (Proc.devRef .tc b)) from rfl, uc_held d (V0 m d), main_eq]
  iintro ⟨#Hctx, Hst, ⟨Hb, Hh, Hts, -⟩, Hg⟩
  iapply (StableHlo.wp_seq 𝒱 none Set.univ d ucRefs _ ops1 ops1_sub ops1_fresh (V0 m d)) $$ [Hb Hh]
  · isplitl [Hb] <;> iassumption
  iintro ⟨Hb, Hh⟩
  iapply (step2 m κ d)
  isplitr; · iexact Hctx
  isplitl [Hst]; · iexact Hst
  isplitl [Hb]; · iexact Hb
  isplitl [Hh]; · iexact Hh
  isplitl [Hts] <;> iassumption

/-! ## Reading the claim off the final memory -/

def fq (d : Dev nD) (s' : Phys nD τ sig (Elt F)) : Prop := ∀ b ∈ (ucRefs : Finset (DevRef τ sig)), s'.mem.mem (d, b) = V4 m d b

omit [FloatOps F] [Named F] in
theorem held_agree (d : Dev nD) (W : Valuation τ sig (Elt F)) (s' : Phys nD τ sig (Elt F)) (S : Finset (DevRef τ sig)) :
    iprop(StableHlo.held (SparseCore.T d : Thread nD τ) S W ∗ SI s') ⊢ (⌜∀ b ∈ S, s'.mem.mem (d, b) = W b⌝ : sProp 𝕄) := by
  unfold StableHlo.held
  induction S using Finset.induction_on with
  | empty => iintro -; ipureintro; exact fun b hb => absurd hb (Finset.notMem_empty b)
  | insert b S hb ih =>
    rw [SparseCore.bigSep_insert' hb]
    iintro ⟨⟨Hp, Hr⟩, HSI⟩
    ihave H := (persistent_entails_right (SI_pointsTo_agree (st := s') (ℓ := (d, b)) (I := Finset.univ) (q := fullShare) (f := W b))) $$ [HSI Hp]
    · isplitl [HSI] <;> iassumption
    icases H with ⟨%h1, HSI, -⟩
    ihave H := ih $$ [Hr HSI]
    · isplitl [Hr] <;> iassumption
    icases H with %h2
    ipureintro
    intro b' hb'
    rcases Finset.mem_insert.mp hb' with rfl | h
    · exact funext fun i => h1 i (Finset.mem_univ i)
    · exact h2 b' h

theorem hfin (d : Dev nD) (s' : Phys nD τ sig (Elt F)) : iprop(FIN m d ∗ SI s') ⊢ (⌜fq m d s'⌝ : sProp 𝕄) := held_agree d (V4 m d) s' ucRefs

/-! ## The program's run -/

/-- Every array that no host operation, no call and no region writes is as at the start; the result is what the region
    wrote; every semaphore is at zero. -/
def QC : PUnit × MemSt nD τ sig (Elt F) → Prop := fun r =>
  (∀ (c : Dev nD), r.2.mem ((SparseCore.T c : Thread nD τ).loc main_v21) = mlpOut (A m) c
    ∧ ∀ b : Ref sig .tc, b.isScoped = false → b ∉ main_v21 :: main_v8 :: W1 ++ W2 →
      r.2.mem ((SparseCore.T c : Thread nD τ).loc b) = m ((SparseCore.T c : Thread nD τ).loc b)) ∧ r.2.sem = fun _ => 0

theorem run_main [∀ e, Nonempty (Elt F e)] (hX : (X m).Inb) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) facts v₀
    (fun q hq => match q with | 0 => nomatch hq)
    (fun q _ => match q with | 0 => tileObl (X m) hX)
    (fun q _ => match q with | 0 => SparseCore.Cfg.VecSplit.of_plain (vecSplit (X m)))
    m ρ main G (FIN m) (u₀ (F := F)) (sep_elim_left.trans (hu₀ (X m))) (hmain m ρ) (fq m) (hfin m) (QC m)
    (fun s' h hz => ⟨fun c => ⟨(h c r21 (mem_uc rfl)).trans (V4_at m c), fun b hb hw => (h c _ (mem_uc hb)).trans (V4_arg m c b hw)⟩, hz⟩)

end Cert.Proof.KernelIdeal

end
-- ==== Proof.KernelIdeal.Host.lean ====
/-
  What the host operations before the gather leave, read at an index: the flat list of table rows and the table with its
  26 vocabularies end to end. A list whose words come from the vocabulary names rows of that table.
-/
module

public import proofs.«01_k».proof.Proof.KernelIdeal.Main
public import Idealize.ShloMosaic.Lib.PointwiseCore
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.Tactic

variable {F : FTy → Type} [FloatOps F] [Named F]
variable (m : (ℓ : Loc nD τ sig) → Buf (Elt F) ℓ)

/-- The index array and the tables, as arrays. -/
abbrev cats (d : Dev nD) : IVec S16384x26 32 := m (d, Proc.devRef .tc main_arg0)
abbrev tables (d : Dev nD) : FVec F S26x100000x16 .f32 := m (d, Proc.devRef .tc main_arg2)

theorem x6_eq (d : Dev nD) (j : S425984.Idx) :
    (X m).x6 d j = IntOp.addi (cats m d (ix2 ⟨(j 0).val / 26, by have := (j 0).isLt; simp at this; omega⟩ ⟨(j 0).val % 26, Nat.mod_lt _ (by decide)⟩))
      (IntOp.muli (BitVec.ofNat 32 ((j 0).val % 26)) 100000#32) := by
  show V1 m d r6 j = _
  unfold V1 ops1
  after_results_simp
  pointwise
  rfl

theorem x7_eq (d : Dev nD) (j : S2600000x16.Idx) :
    (X m).x7 d j = tables m d (ix3 ⟨(j 0).val / 100000, by have := (j 0).isLt; simp at this; omega⟩ ⟨(j 0).val % 100000, Nat.mod_lt _ (by decide)⟩ (j 1)) := by
  show V1 m d r7 j = _
  unfold V1 ops1
  after_results_simp
  pointwise
  rfl

/-- A word of the vocabulary moved to its table's rows: no wrap-around, and in range. -/
theorem moved (w : BitVec 32) (f : ℕ) (hf : f < 26) (hw : w.toNat < 100000) :
    (IntOp.addi w (IntOp.muli (BitVec.ofNat 32 f) 100000#32)).toNat = f * 100000 + w.toNat := by
  show (w + BitVec.ofNat 32 f * 100000#32).toNat = _
  rw [BitVec.toNat_add, BitVec.toNat_mul, BitVec.toNat_ofNat, Nat.mod_eq_of_lt (a := f) (by omega)]
  show (w.toNat + f * 100000 % 2 ^ 32) % 2 ^ 32 = _
  omega

theorem inb (h : ∀ d i, (cats m d i).toNat < 100000) : (X m).Inb := fun d j => by
  rw [x6_eq, moved _ _ (Nat.mod_lt _ (by decide)) (h d _)]
  have := h d (ix2 ⟨(j 0).val / 26, by have := (j 0).isLt; simp at this; omega⟩ ⟨(j 0).val % 26, Nat.mod_lt _ (by decide)⟩)
  have := Nat.mod_lt (j 0).val (show 0 < 26 by decide)
  omega

end Cert.Proof.KernelIdeal

end
-- ==== Proof.KernelIdeal.Frame.lean ====
/-
  The program's frame: from a memory whose index array the vocabulary holds, every run ends, the fifteen arguments are as
  they were and every semaphore is at zero.
-/
module

public import proofs.«01_k».proof.Defs
public import proofs.«01_k».proof.Proof.Range
public import proofs.«01_k».proof.Proof.KernelIdeal.Host

@[expose] public section

noncomputable section

namespace Cert.Proof.KernelIdeal

open Cert.KernelIdeal Cert.KernelIdeal.Gen
open Idealize.ShloMosaic Idealize.SL.Sem

theorem words (m : (ℓ : Loc nD τ sig) → Buf (Elt Ideal) ℓ) (h : Cert.Pre_KernelIdeal m) (d : Dev nD) (i : S16384x26.Idx) :
    (cats m d i).toNat < 100000 :=
  Range.word_lt _ _ _ _ _ _ _ _ _ _ _ _ _ _ _ (h d) i

theorem frame : Cert.quiescent_KernelIdeal := fun m ρ h =>
  (θ_run (Cert.KernelIdeal.defs (F := Ideal)) _ _).mono
    (fun _ hq => ⟨fun c => by
      have k := (hq.1 c).2
      exact ⟨k main_arg0 rfl (by decide), k main_arg1 rfl (by decide), k main_arg2 rfl (by decide), k main_arg3 rfl (by decide),
        k main_arg4 rfl (by decide), k main_arg5 rfl (by decide), k main_arg6 rfl (by decide), k main_arg7 rfl (by decide),
        k main_arg8 rfl (by decide), k main_arg9 rfl (by decide), k main_arg10 rfl (by decide), k main_arg11 rfl (by decide),
        k main_arg12 rfl (by decide), k main_arg13 rfl (by decide), k main_arg14 rfl (by decide)⟩, hq.2⟩)
    (run_main m ρ (inb m (words m h)))

end Cert.Proof.KernelIdeal

end
-- ==== Proof.Consts.lean ====
/-
  The one float constant of the reference that is not zero, as the real number its pattern denotes.
-/
module

public import Idealize.ShloMosaic.PureOps.Ideal

@[expose] public section

noncomputable section

namespace Cert.Proof.Consts

open Idealize.ShloMosaic

/-- The batch normalisation's variance plus epsilon, as rounded: 2097173 / 2097152. -/
theorem ofBits_var : Ideal.ofBits .f32 0x3F800054#32 = ((2097173 / 2097152 : ℝ) : EReal) := by
  simp [Ideal.ofBits, Ideal.ieee, -EReal.coe_mul]; norm_num

end Cert.Proof.Consts

end
-- ==== Proof.Spec.lean ====
/-
  One row's score on extended reals, from the row's gathered embeddings, its continuous features and the parameters: what
  both programs compute.
-/
module

public import proofs.«01_k».proof.Proof.Consts

@[expose] public section

noncomputable section

namespace Cert.Proof.Spec

open Idealize.ShloMosaic

/-- The reciprocal of the root of the variance plus epsilon. -/
def inv : EReal := (((Real.sqrt (2097173 / 2097152))⁻¹ : ℝ) : EReal)

/-- Division by the root is multiplication by its reciprocal. -/
theorem div_root (x : EReal) : Ideal.div x (Ideal.sqrt (Ideal.ofBits .f32 0x3F800054#32)) = x * inv := by
  have h : ¬ ((2097173 / 2097152 : ℝ) < 0) := by norm_num
  have h' : Real.sqrt (2097173 / 2097152 : ℝ) ≠ 0 := (Real.sqrt_pos.2 (by norm_num)).ne'
  rw [Consts.ofBits_var, Ideal.sqrt_coe, if_neg h, Ideal.div_coe h', one_div]
  rfl

/-- Normalisation after the rectifier: `γ · (max v 0 · inv) + β`. -/
def act (γ β v : EReal) : EReal := γ * (max v 0 * inv) + β

/-- The continuous features, normalised. -/
def cont (x γ β : Fin 13 → EReal) (k : Fin 13) : EReal := γ k * (x k * inv) + β k

/-- The first hidden layer: 416 embedding entries and 13 continuous features against 429 rows of weights. -/
def hid1 (g : Fin 416 → EReal) (c : Fin 13 → EReal) (w : Fin 429 → Fin 512 → EReal) (b γ β : Fin 512 → EReal) (l : Fin 512) : EReal :=
  act (γ l) (β l) (((∑ k : Fin 416, g k * w ⟨k.val, by omega⟩ l) + ∑ k : Fin 13, c k * w ⟨416 + k.val, by omega⟩ l) + b l)

/-- The second hidden layer. -/
def hid2 (h : Fin 512 → EReal) (w : Fin 512 → Fin 256 → EReal) (b γ β : Fin 256 → EReal) (k : Fin 256) : EReal :=
  act (γ k) (β k) ((∑ l : Fin 512, h l * w l k) + b k)

/-- The two scores. -/
def out (h : Fin 256 → EReal) (w : Fin 256 → Fin 2 → EReal) (b : Fin 2 → EReal) (o : Fin 2) : EReal :=
  (∑ k : Fin 256, h k * w k o) + b o

end Cert.Proof.Spec

end
-- ==== Proof.Ref.lean ====
/-
  The reference's result read at an index: row `b` is the score of the embeddings that row `b`'s index words name, of its
  continuous features and of the parameters.
-/
module

public import proofs.«01_k».proof.Proof.Spec
public import proofs.«01_k».proof.Proof.Gen.ReferenceIdeal.Run
public import Idealize.ShloMosaic.Lib.Pointwise
public import Idealize.ShloMosaic.Lib.ReduceAll
public import Idealize.ShloMosaic.Lib.WordCmp

@[expose] public section

set_option maxRecDepth 16384

noncomputable section

namespace Cert.Proof.Ref

open Cert.ReferenceIdeal Cert.ReferenceIdeal.Gen
open Idealize.ShloMosaic

/-! ## The result, in four pieces -/

/-- The start indices of the take. -/
def starts (a0 : IVec S16384x26 32) : IVec S26x16384x1 32 :=
  broadcastInDim S26x16384x1 ![0, 1] bcast_S26x16384_S26x16384x1_0_1 (transpose S26x16384 [1, 0]
    (select (cmpi .slt a0 (broadcastInDim S16384x26 ![] bcast_S_S16384x26 (constantI S_ 32 0#32)))
      (addi a0 (broadcastInDim S16384x26 ![] bcast_S_S16384x26 (constantI S_ 32 100000#32))) a0) transposes_S16384x26_S26x16384_1_0)

/-- Where a start index is one of the table's. -/
def valid (i : IVec S26x16384x1 32) : IVec S26x16384x1 1 :=
  andi (cmpi .sge i (broadcastInDim S26x16384x1 ![] bcast_S_S26x16384x1 (constantI S_ 32 0#32)))
    (cmpi .sle i (broadcastInDim S26x16384x1 ![0, 1, 2] bcast_S1x1x1_S26x16384x1_0_1_2 (broadcastInDim S1x1x1 ![2] bcast_S1_S1x1x1_2 (constantI S1 32 99999#32))))

/-- The take. -/
def taken (a0 : IVec S16384x26 32) (a2 : FVec Ideal S26x100000x16 .f32) : FVec Ideal S26x16384x16 .f32 :=
  select (broadcastInDim S26x16384x16 ![0, 1] bcast_S26x16384_S26x16384x16_0_1
      (Host.reduce IntOp.andi (valid (starts a0)) (constantI S_ 1 1#1) reducesTo_S26x16384x1_S26x16384_d2 h_S_))
    (Host.gather gather_S26x100000x16_S26x16384x1_S26x16384x16_2_1_0_0_1_2_1116 a2 (starts a0))
    (broadcastInDim S26x16384x16 ![] bcast_S_S26x16384x16 (constant S_ .f32 0x7FC00000#32))

/-- The first layer's input. -/
def input (t : FVec Ideal S26x16384x16 .f32) (a1 : FVec Ideal S16384x13 .f32) (a3 a4 : FVec Ideal S13 .f32) : FVec Ideal S16384x429 .f32 :=
  concatenate S16384x429 1 [⟨S16384x416, shapeCast _ (transpose S16384x26x16 [1, 0, 2] t transposes_S26x16384x16_S16384x26x16_1_0_2) shapeCasts_S16384x26x16_S16384x416⟩,
    ⟨S16384x13, addf (mulf (broadcastInDim S16384x13 ![0, 1] bcast_S1x13_S16384x13_0_1 (broadcastInDim S1x13 ![1] bcast_S13_S1x13_1 a3))
        (Host.divf a1 (broadcastInDim S16384x13 ![] bcast_S_S16384x13 (id (Host.sqrt (constant S_ .f32 0x3F800054#32))))))
      (broadcastInDim S16384x13 ![0, 1] bcast_S1x13_S16384x13_0_1 (broadcastInDim S1x13 ![1] bcast_S13_S1x13_1 a4))⟩]
    concatenates_S16384x416_S16384x13_S16384x429_d1

def layer1 (x : FVec Ideal S16384x429 .f32) (a5 : FVec Ideal S429x512 .f32) (a6 a7 a8 : FVec Ideal S512 .f32) : FVec Ideal S16384x512 .f32 :=
  addf (mulf (broadcastInDim S16384x512 ![0, 1] bcast_S1x512_S16384x512_0_1 (broadcastInDim S1x512 ![1] bcast_S512_S1x512_1 a7))
      (Host.divf (maximumf (addf (Host.dotGeneral dot_S16384x429_S429x512_S16384x512_1_0_0_1_n_n none x a5)
          (broadcastInDim S16384x512 ![0, 1] bcast_S1x512_S16384x512_0_1 (broadcastInDim S1x512 ![1] bcast_S512_S1x512_1 a6)))
        (broadcastInDim S16384x512 ![] bcast_S_S16384x512 (constant S_ .f32 0x00000000#32)))
      (broadcastInDim S16384x512 ![] bcast_S_S16384x512 (id (Host.sqrt (constant S_ .f32 0x3F800054#32))))))
    (broadcastInDim S16384x512 ![0, 1] bcast_S1x512_S16384x512_0_1 (broadcastInDim S1x512 ![1] bcast_S512_S1x512_1 a8))

def layer2 (x : FVec Ideal S16384x512 .f32) (a9 : FVec Ideal S512x256 .f32) (a10 a11 a12 : FVec Ideal S256 .f32) : FVec Ideal S16384x256 .f32 :=
  addf (mulf (broadcastInDim S16384x256 ![0, 1] bcast_S1x256_S16384x256_0_1 (broadcastInDim S1x256 ![1] bcast_S256_S1x256_1 a11))
      (Host.divf (maximumf (addf (Host.dotGeneral dot_S16384x512_S512x256_S16384x256_1_0_0_1_n_n none x a9)
          (broadcastInDim S16384x256 ![0, 1] bcast_S1x256_S16384x256_0_1 (broadcastInDim S1x256 ![1] bcast_S256_S1x256_1 a10)))
        (broadcastInDim S16384x256 ![] bcast_S_S16384x256 (constant S_ .f32 0x00000000#32)))
      (broadcastInDim S16384x256 ![] bcast_S_S16384x256 (id (Host.sqrt (constant S_ .f32 0x3F800054#32))))))
    (broadcastInDim S16384x256 ![0, 1] bcast_S1x256_S16384x256_0_1 (broadcastInDim S1x256 ![1] bcast_S256_S1x256_1 a12))

def layer3 (x : FVec Ideal S16384x256 .f32) (a13 : FVec Ideal S256x2 .f32) (a14 : FVec Ideal S2 .f32) : FVec Ideal S16384x2 .f32 :=
  addf (Host.dotGeneral dot_S16384x256_S256x2_S16384x2_1_0_0_1_n_n none x a13)
    (broadcastInDim S16384x2 ![0, 1] bcast_S1x2_S16384x2_0_1 (broadcastInDim S1x2 ![1] bcast_S2_S1x2_1 a14))

section
variable (m : (ℓ : Loc nD τ sig) → Buf (Elt Ideal) ℓ) (c : Dev nD)

theorem res_eq : Cert.ReferenceIdeal.Value.res_main_v49 (F := Ideal) m c
    = layer3 (layer2 (layer1 (input (taken (m ((c.tc : Thread nD τ).loc main_arg0)) (m ((c.tc : Thread nD τ).loc main_arg2)))
          (m ((c.tc : Thread nD τ).loc main_arg1)) (m ((c.tc : Thread nD τ).loc main_arg3)) (m ((c.tc : Thread nD τ).loc main_arg4)))
        (m ((c.tc : Thread nD τ).loc main_arg5)) (m ((c.tc : Thread nD τ).loc main_arg6)) (m ((c.tc : Thread nD τ).loc main_arg7)) (m ((c.tc : Thread nD τ).loc main_arg8)))
        (m ((c.tc : Thread nD τ).loc main_arg9)) (m ((c.tc : Thread nD τ).loc main_arg10)) (m ((c.tc : Thread nD τ).loc main_arg11)) (m ((c.tc : Thread nD τ).loc main_arg12)))
        (m ((c.tc : Thread nD τ).loc main_arg13)) (m ((c.tc : Thread nD τ).loc main_arg14)) := rfl
end

/-! ## The perceptron's layers at an index -/

/-- The quotient by the root, as the host prints the root. -/
theorem div_host (x : EReal) : Ideal.div x (id (Host.sqrt (constant (F := Ideal) S_ .f32 0x3F800054#32)) ix0) = x * Spec.inv := Spec.div_root x

theorem layer3_at (x : FVec Ideal S16384x256 .f32) (a13 : FVec Ideal S256x2 .f32) (a14 : FVec Ideal S2 .f32) (b : Fin 16384) (o : Fin 2) :
    layer3 x a13 a14 (ix2 b o) = Spec.out (fun k => x (ix2 b k)) (fun k o => a13 (ix2 k o)) (fun o => a14 (ix1 o)) o := by
  pointwise [layer3, Spec.out]

theorem layer2_at (x : FVec Ideal S16384x512 .f32) (a9 : FVec Ideal S512x256 .f32) (a10 a11 a12 : FVec Ideal S256 .f32) (b : Fin 16384) (k : Fin 256) :
    layer2 x a9 a10 a11 a12 (ix2 b k)
      = Spec.hid2 (fun l => x (ix2 b l)) (fun l k => a9 (ix2 l k)) (fun k => a10 (ix1 k)) (fun k => a11 (ix1 k)) (fun k => a12 (ix1 k)) k := by
  pointwise [layer2, Spec.hid2, Spec.act, div_host]

theorem layer1_at (t : FVec Ideal S26x16384x16 .f32) (a1 : FVec Ideal S16384x13 .f32) (a3 a4 : FVec Ideal S13 .f32)
    (a5 : FVec Ideal S429x512 .f32) (a6 a7 a8 : FVec Ideal S512 .f32) (b : Fin 16384) (l : Fin 512) :
    layer1 (input t a1 a3 a4) a5 a6 a7 a8 (ix2 b l)
      = Spec.hid1 (fun k => t (ix3 ⟨k.val / 16, by omega⟩ b ⟨k.val % 16, by omega⟩))
          (Spec.cont (fun k => a1 (ix2 b k)) (fun k => a3 (ix1 k)) (fun k => a4 (ix1 k)))
          (fun k l => a5 (ix2 k l)) (fun l => a6 (ix1 l)) (fun l => a7 (ix1 l)) (fun l => a8 (ix1 l)) l := by
  pointwise [layer1, input, Spec.hid1, Spec.cont, Spec.act, div_host]

/-! ## The take, for words in the vocabulary -/

theorem starts_at (a0 : IVec S16384x26 32) (h : ∀ i, (a0 i).toNat < 100000) (f : Fin 26) (b : Fin 16384) (z : Fin 1) :
    starts a0 (ix3 f b z) = a0 (ix2 b f) := by
  pointwise [starts]
  have := h (ix2 b f)
  rw [WordCmp.cmpi_slt_zero]
  have h' : decide (2 ^ (32 - 1) ≤ (a0 (ix2 b f)).toNat) = false := decide_eq_false (by omega)
  rw [h']
  rfl

theorem valid_at (a0 : IVec S16384x26 32) (h : ∀ i, (a0 i).toNat < 100000) (j : S26x16384x1.Idx) : valid (starts a0) j = 1#1 := by
  obtain ⟨f, b, z, rfl⟩ : ∃ (f : Fin 26) (b : Fin 16384) (z : Fin 1), j = ix3 f b z := ⟨j 0, j 1, j 2, eq_ix3 j⟩
  have hs := starts_at a0 h f b z
  have := h (ix2 b f)
  show IntOp.andi (IntOp.cmpi .sge (starts a0 (ix3 f b z)) 0#32) (IntOp.cmpi .sle (starts a0 (ix3 f b z)) 99999#32) = 1#1
  rw [hs, WordCmp.cmpi_sge_zero, WordCmp.cmpi_sle_of_lt (by omega) (by decide), decide_eq_true (show (a0 (ix2 b f)).toNat < 2 ^ (32 - 1) by omega),
    decide_eq_true (show (a0 (ix2 b f)).toNat ≤ (99999#32).toNat from Nat.le_of_lt_succ this)]
  rfl

abbrev gd := gather_S26x100000x16_S26x16384x1_S26x16384x16_2_1_0_0_1_2_1116

theorem siIdx_eq (f : Fin 26) (b : Fin 16384) (e : Fin 16) (c : Fin 1) : gd.siIdx (ix3 f b e) c = ix3 f b 0 := by
  funext x
  match x with
  | ⟨0, _⟩ => rfl
  | ⟨1, _⟩ => rfl
  | ⟨2, _⟩ => exact Fin.ext (show c.val = 0 by omega)

theorem gather_at (i : IVec S26x16384x1 32) (a2 : FVec Ideal S26x100000x16 .f32) (f : Fin 26) (b : Fin 16384) (e : Fin 16)
    (n : Fin 100000) (hn : (i (ix3 f b 0)).toNat = n.val) :
    Host.gather gd a2 i (ix3 f b e) = a2 (ix3 f n e) := by
  have hi : (i (ix3 f b 0)).toInt.toNat = n.val := by
    rw [WordCmp.toInt_eq_toNat_of_lt_half (by omega), Int.toNat_natCast, hn]
  refine congrArg a2 (funext fun x => Fin.ext ?_)
  show gd.start (ix3 f b e) i x + gd.batchCoord (ix3 f b e) x + gd.offCoord (ix3 f b e) x = _
  match x with
  | ⟨0, _⟩ =>
    have h0 : gd.start (ix3 f b e) i 0 = 0 := rfl
    have h1 : gd.batchCoord (ix3 f b e) 0 = f.val := rfl
    have h2 : gd.offCoord (ix3 f b e) 0 = 0 := rfl
    show gd.start (ix3 f b e) i 0 + gd.batchCoord (ix3 f b e) 0 + gd.offCoord (ix3 f b e) 0 = f.val
    omega
  | ⟨1, _⟩ =>
    have h0 : gd.start (ix3 f b e) i 1 = min (i (gd.siIdx (ix3 f b e) (0 : Fin 1))).toInt.toNat (100000 - 1) := rfl
    have h1 : gd.batchCoord (ix3 f b e) 1 = 0 := rfl
    have h2 : gd.offCoord (ix3 f b e) 1 = 0 := rfl
    show gd.start (ix3 f b e) i 1 + gd.batchCoord (ix3 f b e) 1 + gd.offCoord (ix3 f b e) 1 = n.val
    rw [siIdx_eq, hi] at h0
    omega
  | ⟨2, _⟩ =>
    have h0 : gd.start (ix3 f b e) i 2 = 0 := rfl
    have h1 : gd.batchCoord (ix3 f b e) 2 = 0 := rfl
    have h2 : gd.offCoord (ix3 f b e) 2 = e.val := rfl
    show gd.start (ix3 f b e) i 2 + gd.batchCoord (ix3 f b e) 2 + gd.offCoord (ix3 f b e) 2 = e.val
    omega

theorem taken_at (a0 : IVec S16384x26 32) (h : ∀ i, (a0 i).toNat < 100000) (a2 : FVec Ideal S26x100000x16 .f32) (f : Fin 26) (b : Fin 16384) (e : Fin 16) :
    taken a0 a2 (ix3 f b e) = a2 (ix3 f ⟨(a0 (ix2 b f)).toNat, h _⟩ e) := by
  have hc : ∀ j, Host.reduce IntOp.andi (valid (starts a0)) (constantI S_ 1 1#1) reducesTo_S26x16384x1_S26x16384_d2 h_S_ j = 1#1 :=
    fun j => Host.reduce_andi_one _ _ _ _ _ rfl (valid_at a0 h)
  have hg := gather_at (starts a0) a2 f b e ⟨_, h (ix2 b f)⟩ (congrArg BitVec.toNat (starts_at a0 h f b 0))
  rw [← hg]
  unfold taken
  generalize Host.reduce IntOp.andi (valid (starts a0)) (constantI S_ 1 1#1) reducesTo_S26x16384x1_S26x16384_d2 h_S_ = v at hc ⊢
  generalize Host.gather gd a2 (starts a0) = g
  pointwise [hc]

/-! ## The result at an index -/

/-- One row's score, from the argument arrays. -/
def score (a0 : IVec S16384x26 32) (a1 : FVec Ideal S16384x13 .f32) (a2 : FVec Ideal S26x100000x16 .f32) (a3 a4 : FVec Ideal S13 .f32)
    (a5 : FVec Ideal S429x512 .f32) (a6 a7 a8 : FVec Ideal S512 .f32) (a9 : FVec Ideal S512x256 .f32) (a10 a11 a12 : FVec Ideal S256 .f32)
    (a13 : FVec Ideal S256x2 .f32) (a14 : FVec Ideal S2 .f32) (b : Fin 16384) (o : Fin 2) : EReal :=
  Spec.out (Spec.hid2 (Spec.hid1 (fun k => a2 (ix3 ⟨k.val / 16, by omega⟩ ⟨(a0 (ix2 b ⟨k.val / 16, by omega⟩)).toNat % 100000, Nat.mod_lt _ (by decide)⟩ ⟨k.val % 16, by omega⟩))
      (Spec.cont (fun k => a1 (ix2 b k)) (fun k => a3 (ix1 k)) (fun k => a4 (ix1 k)))
      (fun k l => a5 (ix2 k l)) (fun l => a6 (ix1 l)) (fun l => a7 (ix1 l)) (fun l => a8 (ix1 l)))
      (fun l k => a9 (ix2 l k)) (fun k => a10 (ix1 k)) (fun k => a11 (ix1 k)) (fun k => a12 (ix1 k)))
    (fun k o => a13 (ix2 k o)) (fun o => a14 (ix1 o)) o

theorem whole_at (a0 : IVec S16384x26 32) (h : ∀ i, (a0 i).toNat < 100000) (a1 : FVec Ideal S16384x13 .f32) (a2 : FVec Ideal S26x100000x16 .f32) (a3 a4 : FVec Ideal S13 .f32)
    (a5 : FVec Ideal S429x512 .f32) (a6 a7 a8 : FVec Ideal S512 .f32) (a9 : FVec Ideal S512x256 .f32) (a10 a11 a12 : FVec Ideal S256 .f32)
    (a13 : FVec Ideal S256x2 .f32) (a14 : FVec Ideal S2 .f32) (b : Fin 16384) (o : Fin 2) :
    layer3 (layer2 (layer1 (input (taken a0 a2) a1 a3 a4) a5 a6 a7 a8) a9 a10 a11 a12) a13 a14 (ix2 b o)
      = score a0 a1 a2 a3 a4 a5 a6 a7 a8 a9 a10 a11 a12 a13 a14 b o := by
  rw [layer3_at, funext fun k => layer2_at _ a9 a10 a11 a12 b k, funext fun l => layer1_at _ a1 a3 a4 a5 a6 a7 a8 b l]
  unfold score
  refine congrArg (fun g => Spec.out (Spec.hid2 (Spec.hid1 g _ _ _ _ _) _ _ _ _) _ _ o) (funext fun k => ?_)
  exact (taken_at a0 h a2 _ b _).trans (congrArg (fun n => a2 (ix3 _ n _)) (Fin.ext (Nat.mod_eq_of_lt (h _)).symm))

end Cert.Proof.Ref

end
-- ==== Proof.KernelIdeal.Entry.lean ====
/-
  What the arrays hold when the perceptron's region is entered, read at an index: the gathered rows, the parameters as
  rows, the two pieces of the first weight.
-/
module

public import proofs.«01_k».proof.Proof.KernelIdeal.Host

@[expose] public section

set_option maxRecDepth 16384

noncomputable section

namespace Cert.Proof.KernelIdeal

open Cert.KernelIdeal Cert.KernelIdeal.Gen
open Idealize.ShloMosaic Idealize.ShloMosaic.Tactic

variable {F : FTy → Type} [FloatOps F] [Named F]
variable (m : (ℓ : Loc nD τ sig) → Buf (Elt F) ℓ)

/-- What an argument holds, seen by the operations after the gather. -/
theorem V2_arg (d : Dev nD) (b : Ref sig .tc) (h : b ∉ main_v8 :: W1) : V2 m d (Proc.devRef .tc b) = m (d, Proc.devRef .tc b) := by
  simp only [List.mem_cons, not_or] at h
  rw [V2_off m d _ (StableHlo.devRef_ne_of_ne h.1), V1_keep m d b (by simpa using h.2)]
  rfl

/-- A gathered row, for words of the vocabulary: the table's row that the word names. -/
theorem y_at (h : ∀ d i, (cats m d i).toNat < 100000) (d : Dev nD) (b : Fin 16384) (f : Fin 26) (e : Fin 16) (n : Fin 425984) (hn : n.val = b.val * 26 + f.val) :
    (X m).y d (ix2 n e) = tables m d (ix3 f ⟨(cats m d (ix2 b f)).toNat % 100000, Nat.mod_lt _ (by decide)⟩ e) := by
  have hw := h d (ix2 b f)
  have e6 : ((X m).x6 d (listIx n)).toNat = f.val * 100000 + (cats m d (ix2 b f)).toNat := by
    rw [x6_eq]
    have hb : n.val / 26 = b.val := by omega
    have hf : n.val % 26 = f.val := by omega
    have e : (ix2 ⟨(listIx n 0).val / 26, by have := (listIx n 0).isLt; simp at this; omega⟩ ⟨(listIx n 0).val % 26, Nat.mod_lt _ (by decide)⟩ : S16384x26.Idx) = ix2 b f := by
      rw [show (⟨(listIx n 0).val / 26, by have := (listIx n 0).isLt; simp at this; omega⟩ : Fin 16384) = b from Fin.ext hb,
        show (⟨(listIx n 0).val % 26, Nat.mod_lt _ (by decide)⟩ : Fin 26) = f from Fin.ext hf]
    rw [e, show (listIx n 0).val % 26 = f.val from hf, moved _ _ f.isLt hw]
  show gath ((X m).x6 d) ((X m).x7 d) (ix2 n e) = _
  show (X m).x7 d (tabIx ((X m).x6 d (listIx n)).toNat e) = _
  rw [e6, x7_eq]
  have hr : (tabIx (f.val * 100000 + (cats m d (ix2 b f)).toNat) e 0).val = f.val * 100000 + (cats m d (ix2 b f)).toNat :=
    Nat.mod_eq_of_lt (by omega)
  refine congrArg (tables m d) ?_
  funext x
  match x with
  | ⟨0, _⟩ => exact Fin.ext (by show _ / 100000 = f.val; rw [hr]; omega)
  | ⟨1, _⟩ => exact Fin.ext (by show _ % 100000 = _ % 100000; rw [hr]; omega)
  | ⟨2, _⟩ => rfl

/-- The first operand of the perceptron. -/
theorem v9_at (h : ∀ d i, (cats m d i).toNat < 100000) (d : Dev nD) (b : Fin 16384) (k : Fin 416) :
    (V3 m d (Proc.devRef .tc main_v9) : FVec F S16384x416 .f32) (ix2 b k)
      = tables m d (ix3 ⟨k.val / 16, by omega⟩ ⟨(cats m d (ix2 b ⟨k.val / 16, by omega⟩)).toNat % 100000, Nat.mod_lt _ (by decide)⟩ ⟨k.val % 16, by omega⟩) := by
  rw [← y_at m h d b ⟨k.val / 16, by omega⟩ ⟨k.val % 16, by omega⟩ ⟨b.val * 26 + k.val / 16, by omega⟩ rfl, ← V2_at]
  unfold V3 ops2
  after_results_simp
  generalize V2 m d = W
  pointwise

theorem v10_at (d : Dev nD) (k : Fin 416) (l : Fin 512) :
    (V3 m d (Proc.devRef .tc main_v10) : FVec F S416x512 .f32) (ix2 k l) = (m (d, Proc.devRef .tc main_arg5) : FVec F S429x512 .f32) (ix2 ⟨k.val, by omega⟩ l) := by
  rw [← V2_arg m d main_arg5 (by decide)]
  unfold V3 ops2
  after_results_simp
  pointwise
theorem v11_at (d : Dev nD) (k : Fin 13) (l : Fin 512) :
    (V3 m d (Proc.devRef .tc main_v11) : FVec F S13x512 .f32) (ix2 k l) = (m (d, Proc.devRef .tc main_arg5) : FVec F S429x512 .f32) (ix2 ⟨416 + k.val, by omega⟩ l) := by
  rw [← V2_arg m d main_arg5 (by decide)]
  unfold V3 ops2
  after_results_simp
  pointwise
theorem v12_at (d : Dev nD) (k : Fin 13) :
    (V3 m d (Proc.devRef .tc main_v12) : FVec F S1x13 .f32) (ix2 0 k) = (m (d, Proc.devRef .tc main_arg3) : FVec F S13 .f32) (ix1 k) := by
  rw [← V2_arg m d main_arg3 (by decide)]
  unfold V3 ops2
  after_results_simp
  pointwise
theorem v13_at (d : Dev nD) (k : Fin 13) :
    (V3 m d (Proc.devRef .tc main_v13) : FVec F S1x13 .f32) (ix2 0 k) = (m (d, Proc.devRef .tc main_arg4) : FVec F S13 .f32) (ix1 k) := by
  rw [← V2_arg m d main_arg4 (by decide)]
  unfold V3 ops2
  after_results_simp
  pointwise
theorem v14_at (d : Dev nD) (k : Fin 512) :
    (V3 m d (Proc.devRef .tc main_v14) : FVec F S1x512 .f32) (ix2 0 k) = (m (d, Proc.devRef .tc main_arg6) : FVec F S512 .f32) (ix1 k) := by
  rw [← V2_arg m d main_arg6 (by decide)]
  unfold V3 ops2
  after_results_simp
  pointwise
theorem v15_at (d : Dev nD) (k : Fin 512) :
    (V3 m d (Proc.devRef .tc main_v15) : FVec F S1x512 .f32) (ix2 0 k) = (m (d, Proc.devRef .tc main_arg7) : FVec F S512 .f32) (ix1 k) := by
  rw [← V2_arg m d main_arg7 (by decide)]
  unfold V3 ops2
  after_results_simp
  pointwise
theorem v16_at (d : Dev nD) (k : Fin 512) :
    (V3 m d (Proc.devRef .tc main_v16) : FVec F S1x512 .f32) (ix2 0 k) = (m (d, Proc.devRef .tc main_arg8) : FVec F S512 .f32) (ix1 k) := by
  rw [← V2_arg m d main_arg8 (by decide)]
  unfold V3 ops2
  after_results_simp
  pointwise
theorem v17_at (d : Dev nD) (k : Fin 256) :
    (V3 m d (Proc.devRef .tc main_v17) : FVec F S1x256 .f32) (ix2 0 k) = (m (d, Proc.devRef .tc main_arg10) : FVec F S256 .f32) (ix1 k) := by
  rw [← V2_arg m d main_arg10 (by decide)]
  unfold V3 ops2
  after_results_simp
  pointwise
theorem v18_at (d : Dev nD) (k : Fin 256) :
    (V3 m d (Proc.devRef .tc main_v18) : FVec F S1x256 .f32) (ix2 0 k) = (m (d, Proc.devRef .tc main_arg11) : FVec F S256 .f32) (ix1 k) := by
  rw [← V2_arg m d main_arg11 (by decide)]
  unfold V3 ops2
  after_results_simp
  pointwise
theorem v19_at (d : Dev nD) (k : Fin 256) :
    (V3 m d (Proc.devRef .tc main_v19) : FVec F S1x256 .f32) (ix2 0 k) = (m (d, Proc.devRef .tc main_arg12) : FVec F S256 .f32) (ix1 k) := by
  rw [← V2_arg m d main_arg12 (by decide)]
  unfold V3 ops2
  after_results_simp
  pointwise
theorem v20_at (d : Dev nD) (k : Fin 2) :
    (V3 m d (Proc.devRef .tc main_v20) : FVec F S1x2 .f32) (ix2 0 k) = (m (d, Proc.devRef .tc main_arg14) : FVec F S2 .f32) (ix1 k) := by
  rw [← V2_arg m d main_arg14 (by decide)]
  unfold V3 ops2
  after_results_simp
  pointwise

end Cert.Proof.KernelIdeal

end
-- ==== Proof.KernelIdeal.Layers.lean ====
/-
  The perceptron's block at an index: row `r` of what the kernel writes is the score of row `r` of its operands.
-/
module

public import proofs.«01_k».proof.Proof.Spec
public import proofs.«01_k».proof.Proof.KernelIdeal.Mlp
public import Idealize.ShloMosaic.Lib.Pointwise

@[expose] public section

set_option maxRecDepth 16384

noncomputable section

namespace Cert.Proof.KernelIdeal

open Cert.KernelIdeal Cert.KernelIdeal.Gen
open Idealize.ShloMosaic

/-- The named constant's value. -/
theorem named_inv : (Named.named κ "inv_root" 0x3F7FFFAC#32 : Ideal .f32) = Spec.inv :=
  IdealRules.named_const.ideal_named_scalar _ _ _ _ rfl

theorem first_at (x0 : FVec Ideal S2048x416 .f32) (x1 : FVec Ideal S2048x13 .f32) (x2 x3 : FVec Ideal S1x13 .f32)
    (x4 : FVec Ideal S416x512 .f32) (x5 : FVec Ideal S13x512 .f32) (x6 x7 x8 : FVec Ideal S1x512 .f32)
    (w : Fin 429 → Fin 512 → EReal) (h4 : ∀ (k : Fin 416) l, x4 (ix2 k l) = w ⟨k.val, by omega⟩ l)
    (h5 : ∀ (k : Fin 13) l, x5 (ix2 k l) = w ⟨416 + k.val, by omega⟩ l) (r : Fin 2048) (l : Fin 512) :
    k1_pay2 (F := Ideal) x2 x1 x3 x0 x4 x5 x6 x7 x8 (ix2 r l)
      = Spec.hid1 (fun k => x0 (ix2 r k)) (Spec.cont (fun k => x1 (ix2 r k)) (fun k => x2 (ix2 0 k)) (fun k => x3 (ix2 0 k)))
          w (fun l => x6 (ix2 0 l)) (fun l => x7 (ix2 0 l)) (fun l => x8 (ix2 0 l)) l := by
  pointwise [k1_pay2, Spec.hid1, Spec.cont, Spec.act, named_inv, h4, h5]

theorem rest_at (h : FVec Ideal S2048x512 .f32) (x9 : FVec Ideal S512x256 .f32) (x10 x11 x12 : FVec Ideal S1x256 .f32)
    (x13 : FVec Ideal S256x2 .f32) (x14 : FVec Ideal S1x2 .f32) (r : Fin 2048) (o : Fin 2) :
    k1_pay1 (F := Ideal) h x9 x10 x11 x12 x13 x14 (ix2 r o)
      = Spec.out (Spec.hid2 (fun l => h (ix2 r l)) (fun l k => x9 (ix2 l k)) (fun k => x10 (ix2 0 k)) (fun k => x11 (ix2 0 k)) (fun k => x12 (ix2 0 k)))
          (fun k o => x13 (ix2 k o)) (fun o => x14 (ix2 0 o)) o := by
  pointwise [k1_pay1, Spec.out, Spec.hid2, Spec.act, named_inv]

theorem mlp_at (x0 : FVec Ideal S2048x416 .f32) (x1 : FVec Ideal S2048x13 .f32) (x2 x3 : FVec Ideal S1x13 .f32)
    (x4 : FVec Ideal S416x512 .f32) (x5 : FVec Ideal S13x512 .f32) (x6 x7 x8 : FVec Ideal S1x512 .f32)
    (x9 : FVec Ideal S512x256 .f32) (x10 x11 x12 : FVec Ideal S1x256 .f32) (x13 : FVec Ideal S256x2 .f32) (x14 : FVec Ideal S1x2 .f32)
    (w : Fin 429 → Fin 512 → EReal) (h4 : ∀ (k : Fin 416) l, x4 (ix2 k l) = w ⟨k.val, by omega⟩ l)
    (h5 : ∀ (k : Fin 13) l, x5 (ix2 k l) = w ⟨416 + k.val, by omega⟩ l) (r : Fin 2048) (o : Fin 2) :
    mlp (F := Ideal) x0 x1 x2 x3 x4 x5 x6 x7 x8 x9 x10 x11 x12 x13 x14 (ix2 r o)
      = Spec.out (Spec.hid2 (Spec.hid1 (fun k => x0 (ix2 r k)) (Spec.cont (fun k => x1 (ix2 r k)) (fun k => x2 (ix2 0 k)) (fun k => x3 (ix2 0 k)))
          w (fun l => x6 (ix2 0 l)) (fun l => x7 (ix2 0 l)) (fun l => x8 (ix2 0 l)))
          (fun l k => x9 (ix2 l k)) (fun k => x10 (ix2 0 k)) (fun k => x11 (ix2 0 k)) (fun k => x12 (ix2 0 k)))
          (fun k o => x13 (ix2 k o)) (fun o => x14 (ix2 0 o)) o := by
  unfold mlp
  rw [rest_at, funext fun l => first_at x0 x1 x2 x3 x4 x5 x6 x7 x8 w h4 h5 r l]

end Cert.Proof.KernelIdeal

end
-- ==== Proof.KernelIdeal.Value.lean ====
/-
  The result of the kernel's program at an index: row `b` is the score of row `b`'s arguments.
-/
module

public import proofs.«01_k».proof.Proof.Ref
public import proofs.«01_k».proof.Proof.KernelIdeal.Entry
public import proofs.«01_k».proof.Proof.KernelIdeal.Layers

@[expose] public section

set_option maxRecDepth 16384

noncomputable section

namespace Cert.Proof.KernelIdeal

open Cert.KernelIdeal Cert.KernelIdeal.Gen
open Idealize.ShloMosaic

/-! ## A window's block -/

section
variable {F : FTy → Type} [FloatOps F] [Named F]
variable (A : (d : Dev nD) → (b : Ref sig .tc) → Buf (Elt F) ((SparseCore.T d : Thread nD τ).loc b))
variable (d : Dev nD) (t : Fin cfg1.N)

/-- Row `r` of block `t`. -/
def row (r : Fin 2048) : Fin 16384 := ⟨t.val * 2048 + r.val, by have h : cfg1.N = 8 := N_1; have := t.isLt; omega⟩

theorem idx_0 : win1_0.index t 0 = t.val ∧ win1_0.index t 1 = 0 := by revert t; decide +kernel
theorem idx_1 : win1_1.index t 0 = t.val ∧ win1_1.index t 1 = 0 := by revert t; decide +kernel
theorem idx_15 : win1_15.index t 0 = t.val ∧ win1_15.index t 1 = 0 := by revert t; decide +kernel

theorem iblk_0 (r : Fin 2048) (k : Fin 416) :
    (iblk A d 0 t : FVec F S2048x416 .f32) (ix2 r k) = (A d main_v9 : FVec F S16384x416 .f32) (ix2 (row t r) k) := by
  show (A d main_v9 : FVec F S16384x416 .f32) ((win1_0.rect t).emb (ix2 r k)) = _
  refine congrArg _ (funext fun x => Fin.ext ?_)
  rw [win1_0.rect_emb_val t (ix2 r k) x]
  match x with
  | ⟨0, _⟩ => show win1_0.index t 0 * 2048 + r.val = t.val * 2048 + r.val; rw [(idx_0 t).1]
  | ⟨1, _⟩ => show win1_0.index t 1 * 416 + k.val = k.val; rw [(idx_0 t).2]; omega

theorem iblk_1 (r : Fin 2048) (k : Fin 13) :
    (iblk A d 1 t : FVec F S2048x13 .f32) (ix2 r k) = (A d main_arg1 : FVec F S16384x13 .f32) (ix2 (row t r) k) := by
  show (A d main_arg1 : FVec F S16384x13 .f32) ((win1_1.rect t).emb (ix2 r k)) = _
  refine congrArg _ (funext fun x => Fin.ext ?_)
  rw [win1_1.rect_emb_val t (ix2 r k) x]
  match x with
  | ⟨0, _⟩ => show win1_1.index t 0 * 2048 + r.val = t.val * 2048 + r.val; rw [(idx_1 t).1]
  | ⟨1, _⟩ => show win1_1.index t 1 * 13 + k.val = k.val; rw [(idx_1 t).2]; omega

/-- The result's array read through block `t`. -/
theorem blk_15 (G : Buf (Elt F) ((SparseCore.T d : Thread nD τ).loc main_v21)) (r : Fin 2048) (o : Fin 2) :
    (((cfg1.win 15).blk t).view.read (Elt F) G : FVec F S2048x2 .f32) (ix2 r o) = (G : FVec F S16384x2 .f32) (ix2 (row t r) o) := by
  show (G : FVec F S16384x2 .f32) ((win1_15.rect t).emb (ix2 r o)) = _
  refine congrArg _ (funext fun x => Fin.ext ?_)
  rw [win1_15.rect_emb_val t (ix2 r o) x]
  match x with
  | ⟨0, _⟩ => show win1_15.index t 0 * 2048 + r.val = t.val * 2048 + r.val; rw [(idx_15 t).1]
  | ⟨1, _⟩ => show win1_15.index t 1 * 2 + o.val = o.val; rw [(idx_15 t).2]; omega

theorem iblk_2 (j : S1x13.Idx) : (iblk A d 2 t : FVec F S1x13 .f32) j = (A d main_v12 : FVec F S1x13 .f32) j := by
  show (A d main_v12 : FVec F S1x13 .f32) ((win1_2.rect t).emb j) = _
  exact congrArg _ (funext fun x => Fin.ext (win1_2.rect_emb_val_of_index_zero t x (by match x with | ⟨0, _⟩ => rfl | ⟨1, _⟩ => rfl) j))
theorem iblk_3 (j : S1x13.Idx) : (iblk A d 3 t : FVec F S1x13 .f32) j = (A d main_v13 : FVec F S1x13 .f32) j := by
  show (A d main_v13 : FVec F S1x13 .f32) ((win1_3.rect t).emb j) = _
  exact congrArg _ (funext fun x => Fin.ext (win1_3.rect_emb_val_of_index_zero t x (by match x with | ⟨0, _⟩ => rfl | ⟨1, _⟩ => rfl) j))
theorem iblk_4 (j : S416x512.Idx) : (iblk A d 4 t : FVec F S416x512 .f32) j = (A d main_v10 : FVec F S416x512 .f32) j := by
  show (A d main_v10 : FVec F S416x512 .f32) ((win1_4.rect t).emb j) = _
  exact congrArg _ (funext fun x => Fin.ext (win1_4.rect_emb_val_of_index_zero t x (by match x with | ⟨0, _⟩ => rfl | ⟨1, _⟩ => rfl) j))
theorem iblk_5 (j : S13x512.Idx) : (iblk A d 5 t : FVec F S13x512 .f32) j = (A d main_v11 : FVec F S13x512 .f32) j := by
  show (A d main_v11 : FVec F S13x512 .f32) ((win1_5.rect t).emb j) = _
  exact congrArg _ (funext fun x => Fin.ext (win1_5.rect_emb_val_of_index_zero t x (by match x with | ⟨0, _⟩ => rfl | ⟨1, _⟩ => rfl) j))
theorem iblk_6 (j : S1x512.Idx) : (iblk A d 6 t : FVec F S1x512 .f32) j = (A d main_v14 : FVec F S1x512 .f32) j := by
  show (A d main_v14 : FVec F S1x512 .f32) ((win1_6.rect t).emb j) = _
  exact congrArg _ (funext fun x => Fin.ext (win1_6.rect_emb_val_of_index_zero t x (by match x with | ⟨0, _⟩ => rfl | ⟨1, _⟩ => rfl) j))
theorem iblk_7 (j : S1x512.Idx) : (iblk A d 7 t : FVec F S1x512 .f32) j = (A d main_v15 : FVec F S1x512 .f32) j := by
  show (A d main_v15 : FVec F S1x512 .f32) ((win1_7.rect t).emb j) = _
  exact congrArg _ (funext fun x => Fin.ext (win1_7.rect_emb_val_of_index_zero t x (by match x with | ⟨0, _⟩ => rfl | ⟨1, _⟩ => rfl) j))
theorem iblk_8 (j : S1x512.Idx) : (iblk A d 8 t : FVec F S1x512 .f32) j = (A d main_v16 : FVec F S1x512 .f32) j := by
  show (A d main_v16 : FVec F S1x512 .f32) ((win1_8.rect t).emb j) = _
  exact congrArg _ (funext fun x => Fin.ext (win1_8.rect_emb_val_of_index_zero t x (by match x with | ⟨0, _⟩ => rfl | ⟨1, _⟩ => rfl) j))
theorem iblk_9 (j : S512x256.Idx) : (iblk A d 9 t : FVec F S512x256 .f32) j = (A d main_arg9 : FVec F S512x256 .f32) j := by
  show (A d main_arg9 : FVec F S512x256 .f32) ((win1_9.rect t).emb j) = _
  exact congrArg _ (funext fun x => Fin.ext (win1_9.rect_emb_val_of_index_zero t x (by match x with | ⟨0, _⟩ => rfl | ⟨1, _⟩ => rfl) j))
theorem iblk_10 (j : S1x256.Idx) : (iblk A d 10 t : FVec F S1x256 .f32) j = (A d main_v17 : FVec F S1x256 .f32) j := by
  show (A d main_v17 : FVec F S1x256 .f32) ((win1_10.rect t).emb j) = _
  exact congrArg _ (funext fun x => Fin.ext (win1_10.rect_emb_val_of_index_zero t x (by match x with | ⟨0, _⟩ => rfl | ⟨1, _⟩ => rfl) j))
theorem iblk_11 (j : S1x256.Idx) : (iblk A d 11 t : FVec F S1x256 .f32) j = (A d main_v18 : FVec F S1x256 .f32) j := by
  show (A d main_v18 : FVec F S1x256 .f32) ((win1_11.rect t).emb j) = _
  exact congrArg _ (funext fun x => Fin.ext (win1_11.rect_emb_val_of_index_zero t x (by match x with | ⟨0, _⟩ => rfl | ⟨1, _⟩ => rfl) j))
theorem iblk_12 (j : S1x256.Idx) : (iblk A d 12 t : FVec F S1x256 .f32) j = (A d main_v19 : FVec F S1x256 .f32) j := by
  show (A d main_v19 : FVec F S1x256 .f32) ((win1_12.rect t).emb j) = _
  exact congrArg _ (funext fun x => Fin.ext (win1_12.rect_emb_val_of_index_zero t x (by match x with | ⟨0, _⟩ => rfl | ⟨1, _⟩ => rfl) j))
theorem iblk_13 (j : S256x2.Idx) : (iblk A d 13 t : FVec F S256x2 .f32) j = (A d main_arg13 : FVec F S256x2 .f32) j := by
  show (A d main_arg13 : FVec F S256x2 .f32) ((win1_13.rect t).emb j) = _
  exact congrArg _ (funext fun x => Fin.ext (win1_13.rect_emb_val_of_index_zero t x (by match x with | ⟨0, _⟩ => rfl | ⟨1, _⟩ => rfl) j))
theorem iblk_14 (j : S1x2.Idx) : (iblk A d 14 t : FVec F S1x2 .f32) j = (A d main_v20 : FVec F S1x2 .f32) j := by
  show (A d main_v20 : FVec F S1x2 .f32) ((win1_14.rect t).emb j) = _
  exact congrArg _ (funext fun x => Fin.ext (win1_14.rect_emb_val_of_index_zero t x (by match x with | ⟨0, _⟩ => rfl | ⟨1, _⟩ => rfl) j))

theorem mem_blk (i : S16384x2.Idx) :
    i ∈ ((cfg1.win 15).blk t).view.set ↔ t.val * 2048 ≤ (i 0 : Nat) ∧ (i 0 : Nat) < t.val * 2048 + 2048 := by
  show i ∈ ((View.whole main_v21).slice (win1_15.rect t)).set ↔ _
  rw [View.set_slice_whole, Rect.mem_set_unit]
  have h1 : (i 1 : Nat) < 2 := (i 1).isLt
  refine ⟨fun h => ?_, fun h a => ?_⟩
  · have : win1_15.index t 0 * 2048 ≤ (i 0 : Nat) ∧ (i 0 : Nat) < win1_15.index t 0 * 2048 + 2048 := h 0
    rw [(idx_15 t).1] at this; exact this
  · match a with
    | ⟨0, _⟩ => show win1_15.index t 0 * 2048 ≤ (i 0 : Nat) ∧ (i 0 : Nat) < win1_15.index t 0 * 2048 + 2048
                rw [(idx_15 t).1]; exact h
    | ⟨1, _⟩ => show win1_15.index t 1 * 2 ≤ (i 1 : Nat) ∧ (i 1 : Nat) < win1_15.index t 1 * 2 + 2
                rw [(idx_15 t).2]; omega

/-- The eight blocks of 2048 rows cover the result. -/
theorem cover (i : S16384x2.Idx) : ∃ t : Fin cfg1.N, (cfg1.win 15).flush t = true ∧ i ∈ ((cfg1.win 15).blk t).view.set := by
  have h0 : (i 0 : Nat) < 16384 := (i 0).isLt
  have hN : cfg1.N = 8 := N_1
  refine ⟨⟨(i 0).val / 2048, by omega⟩, flush1_15 _, ?_⟩
  rw [mem_blk]
  dsimp only
  omega

end

/-! ## The result -/

variable (m : (ℓ : Loc nD τ sig) → Buf (Elt Ideal) ℓ) (d : Dev nD)

/-- The scores of device `d`'s arguments, as an array. -/
def scores : FVec Ideal S16384x2 .f32 := fun i =>
  Ref.score (m (d, Proc.devRef .tc main_arg0)) (m (d, Proc.devRef .tc main_arg1)) (m (d, Proc.devRef .tc main_arg2)) (m (d, Proc.devRef .tc main_arg3))
    (m (d, Proc.devRef .tc main_arg4)) (m (d, Proc.devRef .tc main_arg5)) (m (d, Proc.devRef .tc main_arg6)) (m (d, Proc.devRef .tc main_arg7))
    (m (d, Proc.devRef .tc main_arg8)) (m (d, Proc.devRef .tc main_arg9)) (m (d, Proc.devRef .tc main_arg10)) (m (d, Proc.devRef .tc main_arg11))
    (m (d, Proc.devRef .tc main_arg12)) (m (d, Proc.devRef .tc main_arg13)) (m (d, Proc.devRef .tc main_arg14)) (i 0) (i 1)

/-- What block `t` of the result ends at. -/
theorem oblk_at (h : ∀ d i, (cats m d i).toNat < 100000) (t : Fin cfg1.N) (r : Fin 2048) (o : Fin 2) :
    oblk (A m) d t (ix2 r o) = scores m d (ix2 (row t r) o) := by
  have e0 : ∀ k, (iblk (A m) d 0 t : FVec Ideal S2048x416 .f32) (ix2 r k) = _ := fun k => (iblk_0 (A m) d t r k).trans (v9_at m h d (row t r) k)
  have e1 : ∀ k, (iblk (A m) d 1 t : FVec Ideal S2048x13 .f32) (ix2 r k) = _ := fun k =>
    (iblk_1 (A m) d t r k).trans (congrFun (V3_arg m d main_arg1 (by decide)) _)
  have e2 : ∀ k, (iblk (A m) d 2 t : FVec Ideal S1x13 .f32) (ix2 0 k) = _ := fun k => (iblk_2 (A m) d t _).trans (v12_at m d k)
  have e3 : ∀ k, (iblk (A m) d 3 t : FVec Ideal S1x13 .f32) (ix2 0 k) = _ := fun k => (iblk_3 (A m) d t _).trans (v13_at m d k)
  have e6 : ∀ k, (iblk (A m) d 6 t : FVec Ideal S1x512 .f32) (ix2 0 k) = _ := fun k => (iblk_6 (A m) d t _).trans (v14_at m d k)
  have e7 : ∀ k, (iblk (A m) d 7 t : FVec Ideal S1x512 .f32) (ix2 0 k) = _ := fun k => (iblk_7 (A m) d t _).trans (v15_at m d k)
  have e8 : ∀ k, (iblk (A m) d 8 t : FVec Ideal S1x512 .f32) (ix2 0 k) = _ := fun k => (iblk_8 (A m) d t _).trans (v16_at m d k)
  have e9 : ∀ l k, (iblk (A m) d 9 t : FVec Ideal S512x256 .f32) (ix2 l k) = _ := fun l k =>
    (iblk_9 (A m) d t _).trans (congrFun (V3_arg m d main_arg9 (by decide)) _)
  have e10 : ∀ k, (iblk (A m) d 10 t : FVec Ideal S1x256 .f32) (ix2 0 k) = _ := fun k => (iblk_10 (A m) d t _).trans (v17_at m d k)
  have e11 : ∀ k, (iblk (A m) d 11 t : FVec Ideal S1x256 .f32) (ix2 0 k) = _ := fun k => (iblk_11 (A m) d t _).trans (v18_at m d k)
  have e12 : ∀ k, (iblk (A m) d 12 t : FVec Ideal S1x256 .f32) (ix2 0 k) = _ := fun k => (iblk_12 (A m) d t _).trans (v19_at m d k)
  have e13 : ∀ l k, (iblk (A m) d 13 t : FVec Ideal S256x2 .f32) (ix2 l k) = _ := fun l k =>
    (iblk_13 (A m) d t _).trans (congrFun (V3_arg m d main_arg13 (by decide)) _)
  have e14 : ∀ k, (iblk (A m) d 14 t : FVec Ideal S1x2 .f32) (ix2 0 k) = _ := fun k => (iblk_14 (A m) d t _).trans (v20_at m d k)
  unfold oblk
  rw [mlp_at _ _ _ _ _ _ _ _ _ _ _ _ _ _ _ (fun k l => (m (d, Proc.devRef .tc main_arg5) : FVec Ideal S429x512 .f32) (ix2 k l))
    (fun k l => (iblk_4 (A m) d t _).trans (v10_at m d k l)) (fun k l => (iblk_5 (A m) d t _).trans (v11_at m d k l))]
  rw [funext e0, funext e1, funext e2, funext e3, funext e6, funext e7, funext e8, funext fun l => funext (e9 l), funext e10, funext e11, funext e12,
    funext fun l => funext (e13 l), funext e14]
  rfl

theorem flushed_eq (h : ∀ d i, (cats m d i).toNat < 100000) (t : Fin cfg1.N) :
    (dat (A m) d).flushed 15 t = ((cfg1.win 15).blk t).view.read (Elt Ideal) (scores m d) := by
  show (cfg1.win 15).cut (grid1.coords t) ((dat (A m) d).after 15 t) = _
  rw [after_15]
  funext j
  have hj : j = ix2 (j 0) (j 1) := ValueIdx.eq_ix2 j
  show oblk (A m) d t j = _
  rw [hj]
  exact (oblk_at m d h t _ _).trans (blk_15 (F := Ideal) d t (scores m d) _ _).symm

/-- The result's array ends at the scores. -/
theorem mlpOut_eq (h : ∀ d i, (cats m d i).toNat < 100000) : mlpOut (A m) d = scores m d :=
  (dat (A m) d).arrAt_eq_of_cover 15 (scores m d) (fun t _ => flushed_eq m d h t) cover

end Cert.Proof.KernelIdeal

end
-- ==== Proof.Algebraic.lean ====
/-
  The reference's frames, the named constant, and the equality of the two programs' results on extended reals.
-/
module

public import proofs.«01_k».proof.Proof.KernelIdeal.Frame
public import proofs.«01_k».proof.Proof.KernelIdeal.Value
public import Idealize.ShloMosaic.Lib.Quiescent

@[expose] public section

set_option maxRecDepth 16384

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_in_vocab : Cert.quiescent_ReferenceIdeal_pre_in_vocab := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "inv_root" .f32 0x3F7FFFAC#32 (((Real.sqrt (2097173 / 2097152))⁻¹ : ℝ) : EReal) rfl

/-- The reference's result is the scores of its arguments. -/
theorem reference_value (m' : (ℓ : Loc Cert.ReferenceIdeal.nD Cert.ReferenceIdeal.τ Cert.ReferenceIdeal.sig) → Buf (Elt Ideal) ℓ)
    (c : Dev Cert.ReferenceIdeal.nD)
    (a0 : IVec Cert.ReferenceIdeal.S16384x26 32) (h : ∀ i, (a0 i).toNat < 100000) (a1 : FVec Ideal Cert.ReferenceIdeal.S16384x13 .f32)
    (a2 : FVec Ideal Cert.ReferenceIdeal.S26x100000x16 .f32) (a3 a4 : FVec Ideal Cert.ReferenceIdeal.S13 .f32)
    (a5 : FVec Ideal Cert.ReferenceIdeal.S429x512 .f32) (a6 a7 a8 : FVec Ideal Cert.ReferenceIdeal.S512 .f32)
    (a9 : FVec Ideal Cert.ReferenceIdeal.S512x256 .f32) (a10 a11 a12 : FVec Ideal Cert.ReferenceIdeal.S256 .f32)
    (a13 : FVec Ideal Cert.ReferenceIdeal.S256x2 .f32) (a14 : FVec Ideal Cert.ReferenceIdeal.S2 .f32)
    (e0 : m' ((c.tc : Thread Cert.ReferenceIdeal.nD Cert.ReferenceIdeal.τ).loc Cert.ReferenceIdeal.main_arg0) = a0)
    (e1 : m' ((c.tc : Thread Cert.ReferenceIdeal.nD Cert.ReferenceIdeal.τ).loc Cert.ReferenceIdeal.main_arg1) = a1)
    (e2 : m' ((c.tc : Thread Cert.ReferenceIdeal.nD Cert.ReferenceIdeal.τ).loc Cert.ReferenceIdeal.main_arg2) = a2)
    (e3 : m' ((c.tc : Thread Cert.ReferenceIdeal.nD Cert.ReferenceIdeal.τ).loc Cert.ReferenceIdeal.main_arg3) = a3)
    (e4 : m' ((c.tc : Thread Cert.ReferenceIdeal.nD Cert.ReferenceIdeal.τ).loc Cert.ReferenceIdeal.main_arg4) = a4)
    (e5 : m' ((c.tc : Thread Cert.ReferenceIdeal.nD Cert.ReferenceIdeal.τ).loc Cert.ReferenceIdeal.main_arg5) = a5)
    (e6 : m' ((c.tc : Thread Cert.ReferenceIdeal.nD Cert.ReferenceIdeal.τ).loc Cert.ReferenceIdeal.main_arg6) = a6)
    (e7 : m' ((c.tc : Thread Cert.ReferenceIdeal.nD Cert.ReferenceIdeal.τ).loc Cert.ReferenceIdeal.main_arg7) = a7)
    (e8 : m' ((c.tc : Thread Cert.ReferenceIdeal.nD Cert.ReferenceIdeal.τ).loc Cert.ReferenceIdeal.main_arg8) = a8)
    (e9 : m' ((c.tc : Thread Cert.ReferenceIdeal.nD Cert.ReferenceIdeal.τ).loc Cert.ReferenceIdeal.main_arg9) = a9)
    (e10 : m' ((c.tc : Thread Cert.ReferenceIdeal.nD Cert.ReferenceIdeal.τ).loc Cert.ReferenceIdeal.main_arg10) = a10)
    (e11 : m' ((c.tc : Thread Cert.ReferenceIdeal.nD Cert.ReferenceIdeal.τ).loc Cert.ReferenceIdeal.main_arg11) = a11)
    (e12 : m' ((c.tc : Thread Cert.ReferenceIdeal.nD Cert.ReferenceIdeal.τ).loc Cert.ReferenceIdeal.main_arg12) = a12)
    (e13 : m' ((c.tc : Thread Cert.ReferenceIdeal.nD Cert.ReferenceIdeal.τ).loc Cert.ReferenceIdeal.main_arg13) = a13)
    (e14 : m' ((c.tc : Thread Cert.ReferenceIdeal.nD Cert.ReferenceIdeal.τ).loc Cert.ReferenceIdeal.main_arg14) = a14) :
    (Cert.ReferenceIdeal.Value.res_main_v49 (F := Ideal) m' c : FVec Ideal Cert.ReferenceIdeal.S16384x2 .f32)
      = fun i => Ref.score a0 a1 a2 a3 a4 a5 a6 a7 a8 a9 a10 a11 a12 a13 a14 (i 0) (i 1) := by
  rw [Ref.res_eq, e0, e1, e2, e3, e4, e5, e6, e7, e8, e9, e10, e11, e12, e13, e14]
  funext i
  rw [ValueIdx.eq_ix2 i]
  exact Ref.whole_at a0 h a1 a2 a3 a4 a5 a6 a7 a8 a9 a10 a11 a12 a13 a14 (i 0) (i 1)

theorem algebraic : Cert.algebraic_KernelIdeal_ReferenceIdeal := by
  intro m ρ m' ρ' hpre hagree
  have hw := KernelIdeal.words m hpre
  refine ⟨fun c => KernelIdeal.scores m c, ?_, ?_⟩
  · refine (θ_run (Cert.KernelIdeal.defs (F := Ideal)) _ _).mono (fun _ hq c => ?_) (KernelIdeal.run_main m ρ (KernelIdeal.inb m hw))
    have k := (hq.1 c).2
    exact ⟨(hq.1 c).1.trans (KernelIdeal.mlpOut_eq m c hw), k _ rfl (by decide), k _ rfl (by decide), k _ rfl (by decide), k _ rfl (by decide),
      k _ rfl (by decide), k _ rfl (by decide), k _ rfl (by decide), k _ rfl (by decide), k _ rfl (by decide), k _ rfl (by decide),
      k _ rfl (by decide), k _ rfl (by decide), k _ rfl (by decide), k _ rfl (by decide), k _ rfl (by decide)⟩
  · refine (θ_run (Cert.ReferenceIdeal.defs (F := Ideal)) _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    exact reference_value m' c _ (hw c) _ _ _ _ _ _ _ _ _ _ _ _ _ _ e0 e1 e2 e3 e4 e5 e6 e7 e8 e9 e10 e11 e12 e13 e14

end Cert.Proof

end
-- ==== Proof.lean ====
/-
  The certificate: the frames of the kernel's two programs and of the reference, the named constant, and the equality of
  the results on extended reals.
-/
module

public import proofs.«01_k».proof.Defs
public import proofs.«01_k».proof.Proof.Gen.Pre_in_vocab
public import proofs.«01_k».proof.Proof.Kernel.Frame
public import proofs.«01_k».proof.Proof.KernelIdeal.Frame
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_vocab.Gen.facts,
  Kernel.frame, KernelIdeal.frame, frame_reference, frame_reference_in_vocab, preserves, algebraic⟩

end Cert.Proof

end
